-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x26 : Shape := ⟨2, ![16384, 26]⟩
abbrev S2x64 : Shape := ⟨2, ![2, 64]⟩
abbrev S3x64 : Shape := ⟨2, ![3, 64]⟩
abbrev S_ : Shape := ⟨0, ![]⟩
abbrev S1x64 : Shape := ⟨2, ![1, 64]⟩
abbrev S64 : Shape := ⟨1, ![64]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  slices_S2x64_S1x64_0_0 : S2x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_
  slices_S3x64_S1x64_0_0 : S3x64.Slices ![0, 0] S1x64

variable [Facts]

def fn_part1 {F : FTy → Type} [FloatOps F] (main_v12 : IVec S_ 1) (main_v17 : IVec S64 1) : IVec S_ 1 :=
  let main_c_4 : IVec S_ 1 := constantI S_ 1 1#1
  let main_v18 : IVec S_ 1 := (fun x v => Host.reduce IntOp.andi x v reducesTo_S64_S_d0 h_S_) main_v17 main_c_4
  let main_v19 : IVec S_ 1 := andi main_v12 main_v18
  main_v19

def fn {F : FTy → Type} [FloatOps F] (main_arg0 : IVec S16384x26 32) (main_arg1 : FVec F S2x64 .f32) (main_arg2 : FVec F S3x64 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 59048#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  let main_v6 : FVec F S1x64 .f32 := (extractStridedSlice S1x64 ![0, 0] · slices_S2x64_S1x64_0_0) main_arg1
  let main_v7 : FVec F S64 .f32 := shapeCast S64 main_v6 shapeCasts_S1x64_S64
  let main_v8 : FVec F S64 .f32 := Host.absf main_v7
  let main_cst : FVec F S_ .f32 := constant S_ .f32 0x7F800000#32
  let main_v9 : FVec F S64 .f32 := broadcastInDim S64 ![] bcast_S_S64 main_cst
  let main_v10 : IVec S64 1 := cmpf .olt main_v8 main_v9
  let main_c_2 : IVec S_ 1 := constantI S_ 1 1#1
  let main_v11 : IVec S_ 1 := (fun x v => Host.reduce IntOp.andi x v reducesTo_S64_S_d0 h_S_) main_v10 main_c_2
  let main_v12 : IVec S_ 1 := andi main_v5 main_v11
  let main_v13 : FVec F S1x64 .f32 := (extractStridedSlice S1x64 ![0, 0] · slices_S3x64_S1x64_0_0) main_arg2
  let main_v14 : FVec F S64 .f32 := shapeCast S64 main_v13 shapeCasts_S1x64_S64
  let main_v15 : FVec F S64 .f32 := Host.absf main_v14
  let main_cst_3 : FVec F S_ .f32 := constant S_ .f32 0x7F800000#32
  let main_v16 : FVec F S64 .f32 := broadcastInDim S64 ![] bcast_S_S64 main_cst_3
  let main_v17 : IVec S64 1 := cmpf .olt main_v15 main_v16
  fn_part1 (F := F) main_v12 main_v17
-- ==== Kernel.lean ====
abbrev S16384x26 : Shape := ⟨2, ![16384, 26]⟩
abbrev S2x64 : Shape := ⟨2, ![2, 64]⟩
abbrev S3x64 : Shape := ⟨2, ![3, 64]⟩
abbrev S_ : Shape := ⟨0, ![]⟩
abbrev S64 : Shape := ⟨1, ![64]⟩
abbrev S1x64 : Shape := ⟨2, ![1, 64]⟩
abbrev S128 : Shape := ⟨1, ![128]⟩
abbrev S26x26 : Shape := ⟨2, ![26, 26]⟩
abbrev S26x26x1 : Shape := ⟨3, ![26, 26, 1]⟩
abbrev S1x1x128 : Shape := ⟨3, ![1, 1, 128]⟩
abbrev S26x26x128 : Shape := ⟨3, ![26, 26, 128]⟩
abbrev S26x3328 : Shape := ⟨2, ![26, 3328]⟩
abbrev S104x3328 : Shape := ⟨2, ![104, 3328]⟩
abbrev S26x16384 : Shape := ⟨2, ![26, 16384]⟩
abbrev S26x16384x128 : Shape := ⟨3, ![26, 16384, 128]⟩
abbrev S26x1024 : Shape := ⟨2, ![26, 1024]⟩
abbrev S26x1024x128 : Shape := ⟨3, ![26, 1024, 128]⟩
abbrev S1024x26 : Shape := ⟨2, ![1024, 26]⟩
abbrev S1024x104 : Shape := ⟨2, ![1024, 104]⟩
abbrev S104x128 : Shape := ⟨2, ![104, 128]⟩
abbrev S1024x128 : Shape := ⟨2, ![1024, 128]⟩
abbrev S1x1024x128 : Shape := ⟨3, ![1, 1024, 128]⟩
abbrev S16384x26x128 : Shape := ⟨3, ![16384, 26, 128]⟩

abbrev nBuf : Space → Nat
  | .hbm => 70
  | .vmem => 5
  | .smem => 0
  | _ => 0

abbrev bufTy : (tb : Table) → Fin (tcTables nBuf tb) → BufTy
  | .hbm, ⟨0, _⟩ => ⟨S16384x26, .i32⟩
  | .hbm, ⟨1, _⟩ => ⟨S2x64, .f32⟩
  | .hbm, ⟨2, _⟩ => ⟨S3x64, .f32⟩
  | .hbm, ⟨3, _⟩ => ⟨S_, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S128, .f32⟩
  | .hbm, ⟨23, _⟩ => ⟨S1x64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S128, .f32⟩
  | .hbm, ⟨34, _⟩ => ⟨S26x26, .i32⟩
  | .hbm, ⟨35, _⟩ => ⟨S26x26, .i32⟩
  | .hbm, ⟨36, _⟩ => ⟨S_, .i32⟩
  | .hbm, ⟨37, _⟩ => ⟨S26x26, .i32⟩
  | .hbm, ⟨38, _⟩ => ⟨S26x26, .i32⟩
  | .hbm, ⟨39, _⟩ => ⟨S26x26, .i1⟩
  | .hbm, ⟨40, _⟩ => ⟨S26x26, .f32⟩
  | .hbm, ⟨41, _⟩ => ⟨S26x26x1, .f32⟩
  | .hbm, ⟨42, _⟩ => ⟨S1x1x128, .f32⟩
  | .hbm, ⟨43, _⟩ => ⟨S26x26x128, .f32⟩
  | .hbm, ⟨44, _⟩ => ⟨S26x26x128, .f32⟩
  | .hbm, ⟨45, _⟩ => ⟨S26x26x128, .f32⟩
  | .hbm, ⟨46, _⟩ => ⟨S26x3328, .f32⟩
  | .hbm, ⟨47, _⟩ => ⟨S26x26x1, .f32⟩
  | .hbm, ⟨48, _⟩ => ⟨S1x1x128, .f32⟩
  | .hbm, ⟨49, _⟩ => ⟨S26x26x128, .f32⟩
  | .hbm, ⟨50, _⟩ => ⟨S26x26x128, .f32⟩
  | .hbm, ⟨51, _⟩ => ⟨S26x26x128, .f32⟩
  | .hbm, ⟨52, _⟩ => ⟨S26x3328, .f32⟩
  | .hbm, ⟨53, _⟩ => ⟨S26x26x1, .f32⟩
  | .hbm, ⟨54, _⟩ => ⟨S1x1x128, .f32⟩
  | .hbm, ⟨55, _⟩ => ⟨S26x26x128, .f32⟩
  | .hbm, ⟨56, _⟩ => ⟨S26x26x128, .f32⟩
  | .hbm, ⟨57, _⟩ => ⟨S26x26x128, .f32⟩
  | .hbm, ⟨58, _⟩ => ⟨S26x3328, .f32⟩
  | .hbm, ⟨59, _⟩ => ⟨S26x26x1, .f32⟩
  | .hbm, ⟨60, _⟩ => ⟨S1x1x128, .f32⟩
  | .hbm, ⟨61, _⟩ => ⟨S26x26x128, .f32⟩
  | .hbm, ⟨62, _⟩ => ⟨S26x26x128, .f32⟩
  | .hbm, ⟨63, _⟩ => ⟨S26x26x128, .f32⟩
  | .hbm, ⟨64, _⟩ => ⟨S26x3328, .f32⟩
  | .hbm, ⟨65, _⟩ => ⟨S104x3328, .f32⟩
  | .hbm, ⟨66, _⟩ => ⟨S104x3328, .bf16⟩
  | .hbm, ⟨67, _⟩ => ⟨S26x16384, .i32⟩
  | .hbm, ⟨68, _⟩ => ⟨S26x16384x128, .f32⟩
  | .hbm, ⟨69, _⟩ => ⟨S16384x26x128, .f32⟩
  | .local _ .vmem, ⟨0, _⟩ => ⟨S26x1024, .i32⟩
  | .local _ .vmem, ⟨1, _⟩ => ⟨S26x1024, .i32⟩
  | .local _ .vmem, ⟨2, _⟩ => ⟨S104x3328, .bf16⟩
  | .local _ .vmem, ⟨3, _⟩ => ⟨S26x1024x128, .f32⟩
  | .local _ .vmem, ⟨4, _⟩ => ⟨S26x1024x128, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S26x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S104x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S26x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x26 : Shape := ⟨2, ![16384, 26]⟩
abbrev S2x64 : Shape := ⟨2, ![2, 64]⟩
abbrev S3x64 : Shape := ⟨2, ![3, 64]⟩
abbrev S16 : Shape := ⟨1, ![16]⟩
abbrev S16384x26x1 : Shape := ⟨3, ![16384, 26, 1]⟩
abbrev S1x1x16 : Shape := ⟨3, ![1, 1, 16]⟩
abbrev S16384x26x16 : Shape := ⟨3, ![16384, 26, 16]⟩
abbrev S_ : Shape := ⟨0, ![]⟩
abbrev S16384x26x16x1 : Shape := ⟨4, ![16384, 26, 16, 1]⟩
abbrev S1 : Shape := ⟨1, ![1]⟩
abbrev S1x1x1x1 : Shape := ⟨4, ![1, 1, 1, 1]⟩
abbrev S16384x26x16x64 : Shape := ⟨4, ![16384, 26, 16, 64]⟩
abbrev S16384x26x64 : Shape := ⟨3, ![16384, 26, 64]⟩
abbrev S16384x26x128 : Shape := ⟨3, ![16384, 26, 128]⟩

abbrev nBuf : Space → Nat
  | .hbm => 142
  | .vmem => 0
  | .smem => 0
  | _ => 0

abbrev hbmTy0_0 (i : Nat) : BufTy := match i % 128 with
  | 0 => ⟨S16384x26, .i32⟩
  | 1 => ⟨S2x64, .f32⟩
  | 2 => ⟨S3x64, .f32⟩
  | 3 => ⟨S16, .i32⟩
  | 4 => ⟨S16, .i32⟩
  | 5 => ⟨S16384x26x1, .i32⟩
  | 6 => ⟨S1x1x16, .i32⟩
  | 7 => ⟨S16384x26x16, .i32⟩
  | 8 => ⟨S16384x26x16, .i32⟩
  | 9 => ⟨S16384x26x16, .i32⟩
  | 10 => ⟨S16384x26x1, .i32⟩
  | 11 => ⟨S1x1x16, .i32⟩
  | 12 => ⟨S16384x26x16, .i32⟩
  | 13 => ⟨S16384x26x16, .i32⟩
  | 14 => ⟨S16384x26x16, .i1⟩
  | 15 => ⟨S16384x26x16, .i32⟩
  | 16 => ⟨S16384x26x16, .i32⟩
  | 17 => ⟨S16384x26x16, .i32⟩
  | 18 => ⟨S_, .i32⟩
  | 19 => ⟨S16384x26x16, .i32⟩
  | 20 => ⟨S16384x26x16, .i1⟩
  | 21 => ⟨S16384x26x16, .i1⟩
  | 22 => ⟨S_, .i32⟩
  | 23 => ⟨S16384x26x16, .i32⟩
  | 24 => ⟨S16384x26x16, .i32⟩
  | 25 => ⟨S16384x26x16, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S16384x26x16, .i32⟩
  | 33 => ⟨S16384x26x16, .i32⟩
  | 34 => ⟨S_, .i32⟩
  | 35 => ⟨S16384x26x16, .i32⟩
  | 36 => ⟨S16384x26x16, .i1⟩
  | 37 => ⟨S_, .i32⟩
  | 38 => ⟨S16384x26x16, .i32⟩
  | 39 => ⟨S16384x26x16, .i1⟩
  | 40 => ⟨S_, .i32⟩
  | 41 => ⟨S_, .i1⟩
  | 42 => ⟨S16384x26x16, .i1⟩
  | 43 => ⟨S16384x26x16, .i1⟩
  | 44 => ⟨S16384x26x16, .i1⟩
  | 45 => ⟨S16384x26x16, .i32⟩
  | 46 => ⟨S16384x26x16, .i32⟩
  | 47 => ⟨S16384x26x16, .i32⟩
  | 48 => ⟨S_, .i32⟩
  | 49 => ⟨S16384x26x16, .i32⟩
  | 50 => ⟨S16384x26x16, .i1⟩
  | 51 => ⟨S_, .i32⟩
  | 52 => ⟨S16384x26x16, .i32⟩
  | 53 => ⟨S16384x26x16, .i32⟩
  | 54 => ⟨S16384x26x16, .i32⟩
  | 55 => ⟨S16384x26x16x1, .i32⟩
  | 56 => ⟨S1, .i32⟩
  | 57 => ⟨S_, .i32⟩
  | 58 => ⟨S16384x26x16x1, .i32⟩
  | 59 => ⟨S16384x26x16x1, .i1⟩
  | 60 => ⟨S1x1x1x1, .i32⟩
  | 61 => ⟨S16384x26x16x1, .i32⟩
  | 62 => ⟨S16384x26x16x1, .i1⟩
  | 63 => ⟨S16384x26x16x1, .i1⟩
  | 64 => ⟨S_, .i1⟩
  | 65 => ⟨S16384x26x16, .i1⟩
  | 66 => ⟨S16384x26x16x64, .f32⟩
  | 67 => ⟨S16384x26x16x64, .i1⟩
  | 68 => ⟨S_, .f32⟩
  | 69 => ⟨S16384x26x16x64, .f32⟩
  | 70 => ⟨S16384x26x16x64, .f32⟩
  | 71 => ⟨S_, .f32⟩
  | 72 => ⟨S16384x26x64, .f32⟩
  | 73 => ⟨S16384x26x1, .i32⟩
  | 74 => ⟨S1x1x16, .i32⟩
  | 75 => ⟨S16384x26x16, .i32⟩
  | 76 => ⟨S16384x26x16, .i32⟩
  | 77 => ⟨S16384x26x16, .i32⟩
  | 78 => ⟨S16384x26x1, .i32⟩
  | 79 => ⟨S1x1x16, .i32⟩
  | 80 => ⟨S16384x26x16, .i32⟩
  | 81 => ⟨S16384x26x16, .i32⟩
  | 82 => ⟨S16384x26x16, .i1⟩
  | 83 => ⟨S16384x26x16, .i32⟩
  | 84 => ⟨S16384x26x16, .i32⟩
  | 85 => ⟨S16384x26x16, .i32⟩
  | 86 => ⟨S_, .i32⟩
  | 87 => ⟨S16384x26x16, .i32⟩
  | 88 => ⟨S16384x26x16, .i1⟩
  | 89 => ⟨S16384x26x16, .i1⟩
  | 90 => ⟨S_, .i32⟩
  | 91 => ⟨S16384x26x16, .i32⟩
  | 92 => ⟨S16384x26x16, .i32⟩
  | 93 => ⟨S16384x26x16, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S16384x26x16, .i32⟩
  | 101 => ⟨S16384x26x16, .i32⟩
  | 102 => ⟨S_, .i32⟩
  | 103 => ⟨S16384x26x16, .i32⟩
  | 104 => ⟨S16384x26x16, .i1⟩
  | 105 => ⟨S_, .i32⟩
  | 106 => ⟨S16384x26x16, .i32⟩
  | 107 => ⟨S16384x26x16, .i1⟩
  | 108 => ⟨S_, .i32⟩
  | 109 => ⟨S_, .i1⟩
  | 110 => ⟨S16384x26x16, .i1⟩
  | 111 => ⟨S16384x26x16, .i1⟩
  | 112 => ⟨S16384x26x16, .i1⟩
  | 113 => ⟨S16384x26x16, .i32⟩
  | 114 => ⟨S16384x26x16, .i32⟩
  | 115 => ⟨S16384x26x16, .i32⟩
  | 116 => ⟨S_, .i32⟩
  | 117 => ⟨S16384x26x16, .i32⟩
  | 118 => ⟨S16384x26x16, .i1⟩
  | 119 => ⟨S_, .i32⟩
  | 120 => ⟨S16384x26x16, .i32⟩
  | 121 => ⟨S16384x26x16, .i32⟩
  | 122 => ⟨S16384x26x16, .i32⟩
  | 123 => ⟨S16384x26x16x1, .i32⟩
  | 124 => ⟨S1, .i32⟩
  | 125 => ⟨S_, .i32⟩
  | 126 => ⟨S16384x26x16x1, .i32⟩
  | 127 => ⟨S16384x26x16x1, .i1⟩
  | _ => ⟨S16384x26, .i32⟩

abbrev hbmTy0_1 (i : Nat) : BufTy := match i % 128 with
  | 0 => ⟨S1x1x1x1, .i32⟩
  | 1 => ⟨S16384x26x16x1, .i32⟩
  | 2 => ⟨S16384x26x16x1, .i1⟩
  | 3 => ⟨S16384x26x16x1, .i1⟩
  | 4 => ⟨S_, .i1⟩
  | 5 => ⟨S16384x26x16, .i1⟩
  | 6 => ⟨S16384x26x16x64, .f32⟩
  | 7 => ⟨S16384x26x16x64, .i1⟩
  | 8 => ⟨S_, .f32⟩
  | 9 => ⟨S16384x26x16x64, .f32⟩
  | 10 => ⟨S16384x26x16x64, .f32⟩
  | 11 => ⟨S_, .f32⟩
  | 12 => ⟨S16384x26x64, .f32⟩
  | 13 => ⟨S16384x26x128, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_c_0 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_c_1 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v3 : Ref sig .tc := ⟨.hbm, 70, rfl⟩
abbrev main_cst : Ref sig .tc := ⟨.hbm, 71, rfl⟩
abbrev main_v4 : Ref sig .tc := ⟨.hbm, 72, rfl⟩
abbrev main_v5 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_call3_c_0 : Ref sig .tc := ⟨.hbm, 90, rfl⟩
abbrev main_call3_v15 : Ref sig .tc := ⟨.hbm, 91, rfl⟩
abbrev main_call3_v16 : Ref sig .tc := ⟨.hbm, 92, rfl⟩
abbrev main_v6 : Ref sig .tc := ⟨.hbm, 93, rfl⟩
abbrev main_c_2 : Ref sig .tc := ⟨.hbm, 94, rfl⟩
abbrev main_call4_v0 : Ref sig .tc := ⟨.hbm, 95, rfl⟩
abbrev main_call4_c : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_1 : Ref sig .tc := ⟨.hbm, 102, rfl⟩
abbrev main_call4_v5 : Ref sig .tc := ⟨.hbm, 103, rfl⟩
abbrev main_call4_v6 : Ref sig .tc := ⟨.hbm, 104, rfl⟩
abbrev main_call4_c_2 : Ref sig .tc := ⟨.hbm, 105, rfl⟩
abbrev main_call4_v7 : Ref sig .tc := ⟨.hbm, 106, rfl⟩
abbrev main_call4_v8 : Ref sig .tc := ⟨.hbm, 107, rfl⟩
abbrev main_call4_c_3 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_v7 : Ref sig .tc := ⟨.hbm, 115, rfl⟩
abbrev main_call5_c : Ref sig .tc := ⟨.hbm, 116, rfl⟩
abbrev main_call5_v0 : Ref sig .tc := ⟨.hbm, 117, rfl⟩
abbrev main_call5_v1 : Ref sig .tc := ⟨.hbm, 118, rfl⟩
abbrev main_call5_c_0 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_c_1 : Ref sig .tc := ⟨.hbm, 124, rfl⟩
abbrev main_call5_c_2 : Ref sig .tc := ⟨.hbm, 125, rfl⟩
abbrev main_call5_v6 : Ref sig .tc := ⟨.hbm, 126, rfl⟩
abbrev main_call5_v7 : Ref sig .tc := ⟨.hbm, 127, rfl⟩
abbrev main_call5_v8 : Ref sig .tc := ⟨.hbm, 128, rfl⟩
abbrev main_call5_v9 : Ref sig .tc := ⟨.hbm, 129, rfl⟩
abbrev main_call5_v10 : Ref sig .tc := ⟨.hbm, 130, rfl⟩
abbrev main_call5_v11 : Ref sig .tc := ⟨.hbm, 131, rfl⟩
abbrev main_call5_c_3 : Ref sig .tc := ⟨.hbm, 132, rfl⟩
abbrev main_call5_v12 : Ref sig .tc := ⟨.hbm, 133, rfl⟩
abbrev main_call5_v13 : Ref sig .tc := ⟨.hbm, 134, rfl⟩
abbrev main_call5_v14 : Ref sig .tc := ⟨.hbm, 135, rfl⟩
abbrev main_call5_cst : Ref sig .tc := ⟨.hbm, 136, rfl⟩
abbrev main_call5_v15 : Ref sig .tc := ⟨.hbm, 137, rfl⟩
abbrev main_v8 : Ref sig .tc := ⟨.hbm, 138, rfl⟩
abbrev main_cst_3 : Ref sig .tc := ⟨.hbm, 139, rfl⟩
abbrev main_v9 : Ref sig .tc := ⟨.hbm, 140, rfl⟩
abbrev main_v10 : Ref sig .tc := ⟨.hbm, 141, rfl⟩

abbrev nD : Nat := 1
abbrev τ : Topo := Topo.v7x

variable {F : FTy → Type} [FloatOps F]
-- ==== Proof.Pre.lean ====
/-
  The precondition `in_range`, read: the side conditions of its operations hold, and where it is true every index is below 59048
  and the first row of each table holds real numbers.
-/
module

public import proofs.«01_k».proof.Pre_in_range
public import Idealize.ShloMosaic.Lib.Pointwise
public import Idealize.ShloMosaic.Lib.IdealHost
public import Idealize.ShloMosaic.Lib.ReduceAll

@[expose] public section

set_option maxRecDepth 16384

noncomputable section

namespace Cert.Nary

open Idealize.ShloMosaic

/-- The side conditions of the precondition's operations. -/
theorem pre_facts : Cert.Pre_in_range.Facts :=
  ⟨by decide, by decide, by decide, by decide, by decide, by decide, by decide, by decide⟩

/-- A conjunction of two truth values is true only where both are. -/
theorem both_true : ∀ a b : BitVec 1, IntOp.andi a b = 1#1 → a = 1#1 ∧ b = 1#1 := by decide

/-- There is one index of no axes. -/
theorem one_index : Subsingleton Cert.Pre_in_range.S_.Idx := ⟨fun _ _ => funext fun k => k.elim0⟩

/-- A word that is at least zero and below 59048, read as signed, is below 59048 as a number. -/
theorem word_in_range (x : BitVec 32) (h : IntOp.andi (IntOp.cmpi .sge x 0#32) (IntOp.cmpi .slt x 59048#32) = 1#1) : x.toNat < 59048 := by
  obtain ⟨h0, h1⟩ := both_true _ _ h
  have h0' : BitVec.ofBool ((0#32 : BitVec 32).sle x) = 1#1 := h0
  have h1' : BitVec.ofBool (x.slt 59048#32) = 1#1 := h1
  have e (b : Bool) : BitVec.ofBool b = 1#1 → b = true := by cases b <;> decide
  have a := e _ h0'
  have b := e _ h1'
  rw [BitVec.sle_eq_decide, decide_eq_true_eq] at a
  rw [BitVec.slt_eq_decide, decide_eq_true_eq] at b
  have c : (59048#32 : BitVec 32).toInt = 59048 := by decide
  have d : (0#32 : BitVec 32).toInt = 0 := by decide
  have k := BitVec.toInt_eq_toNat_cond x
  have l := x.isLt
  split at k <;> omega

/-- The word of infinity is the greatest extended real. -/
theorem lit_top : Ideal.ofBits .f32 0x7F800000#32 = (⊤ : EReal) := by
  simp [Ideal.ofBits, Ideal.ieee]

/-- An extended real whose absolute value is below infinity is a real. -/
theorem real_of_abs (x : EReal) (h : FloatOps.cmpf (F := Ideal) (φ := .f32) .olt (max x (-x)) (Ideal.ofBits .f32 0x7F800000#32) = 1#1) :
    ∃ u : ℝ, x = (u : EReal) := by
  rw [lit_top] at h
  induction x using EReal.rec with
  | coe u => exact ⟨u, rfl⟩
  | bot => exact absurd h (show ¬BitVec.ofBool (decide (max (⊥ : EReal) (-⊥) < ⊤)) = 1#1 by simp)
  | top => exact absurd h (show ¬BitVec.ofBool (decide (max (⊤ : EReal) (-⊤) < ⊤)) = 1#1 by simp)

/-- The precondition, read: the indices are below 59048 and the tables' first rows hold reals. -/
theorem pre_read (X : IVec Cert.Pre_in_range.S16384x26 32) (W2 : FVec Ideal Cert.Pre_in_range.S2x64 .f32)
    (W3 : FVec Ideal Cert.Pre_in_range.S3x64 .f32) [hF : Cert.Pre_in_range.Facts] (h : Cert.Pre_in_range.fn (F := Ideal) X W2 W3 = fun _ => 1#1) :
    (∀ b f, BitVec.toNat (X (ix2 b f)) < 59048) ∧ (∀ l, ∃ u : ℝ, W2 (ix2 (0 : Fin 2) l) = (u : EReal))
      ∧ (∀ l, ∃ u : ℝ, W3 (ix2 (0 : Fin 3) l) = (u : EReal)) := by
  haveI := one_index
  obtain ⟨h12, h3⟩ := both_true _ _ (congrFun h (fun k => k.elim0))
  obtain ⟨h1, h2⟩ := both_true _ _ h12
  have row2 (l : Fin 64) : shapeCast Cert.Pre_in_range.S64 (extractStridedSlice Cert.Pre_in_range.S1x64 ![0, 0] W2 hF.slices_S2x64_S1x64_0_0)
      hF.shapeCasts_S1x64_S64 (ix1 l) = W2 (ix2 (0 : Fin 2) l) := by pointwise []
  have row3 (l : Fin 64) : shapeCast Cert.Pre_in_range.S64 (extractStridedSlice Cert.Pre_in_range.S1x64 ![0, 0] W3 hF.slices_S3x64_S1x64_0_0)
      hF.shapeCasts_S1x64_S64 (ix1 l) = W3 (ix2 (0 : Fin 3) l) := by pointwise []
  refine ⟨fun b f => word_in_range _ (Host.reduce_andi_all _ _ _ _ _ h1 (ix2 b f)), fun l => ?_, fun l => ?_⟩
  · rw [← row2 l]
    exact real_of_abs _ (Host.reduce_andi_all _ _ _ _ _ h2 (ix1 l))
  · rw [← row3 l]
    exact real_of_abs _ (Host.reduce_andi_all _ _ _ _ _ h3 (ix1 l))

end Cert.Nary

end
-- ==== Proof.Digits.lean ====
/-
  The base-two and base-three digits of an index, as natural numbers, and the words and real numbers that the two programs
  compute them with.  Nothing here mentions a program.
-/
module

public import Idealize.ShloMosaic.PureOps
public import Mathlib.Tactic.Linarith
public import Mathlib.Tactic.NormNum
public import Mathlib.Algebra.BigOperators.Fin

@[expose] public section

namespace Cert.Nary

open Idealize.ShloMosaic

/-! ## Digits as natural numbers -/

/-- The digit of `n` in base `b` at place `k`, counted from the least significant. -/
def digit (b n k : Nat) : Nat := n / b ^ k % b

/-- How many of the sixteen lowest digits of `n` in base `b` are `v`. -/
def count (b v n : Nat) : Nat := ∑ k : Fin 16, if digit b n k.val = v then 1 else 0

/-- A digit is below its base. -/
theorem digit_lt (b n k : Nat) (hb : 0 < b) : digit b n k < b := Nat.mod_lt _ hb

/-- Dropping the lowest digit moves every place down by one. -/
theorem digit_succ (b n k : Nat) : digit b n (k + 1) = digit b (n / b) k := by
  unfold digit; rw [pow_succ, Nat.mul_comm, Nat.div_div_eq_div_mul]

/-- A number below `3 ^ 10` has no base-three digit past its tenth, so ten rounds count every nonzero digit of the sixteen. -/
theorem count_three_eq_ten (v n : Nat) (hv : v ≠ 0) (hn : n < 59049) :
    count 3 v n = ∑ k ∈ Finset.range 10, if digit 3 n k = v then 1 else 0 := by
  unfold count
  rw [Fin.sum_univ_eq_sum_range (fun k => if digit 3 n k = v then 1 else 0) 16]
  refine (Finset.sum_subset (Finset.range_mono (by norm_num)) fun k _ hk => if_neg ?_).symm
  rw [Finset.mem_range, not_lt] at hk
  unfold digit
  rw [Nat.div_eq_of_lt (hn.trans_le ((by norm_num : 59049 = 3 ^ 10).le.trans (Nat.pow_le_pow_right (by norm_num) hk)))]
  exact fun h => hv h.symm

end Cert.Nary
-- ==== Proof.Popcount.lean ====
/-
  The population count of a sixteen-bit word by the usual sums over neighbouring groups of bits is the number of ones among its
  base-two digits.
-/
module

public import proofs.«01_k».proof.Proof.Digits
public import Mathlib.Tactic.IntervalCases

@[expose] public section

namespace Cert.Nary

/-! ## The population count of a sixteen-bit word -/

/-- The number of ones of a word below `2 ^ 16`, by the usual sums over neighbouring groups of bits. -/
def popWord (x : BitVec 32) : BitVec 32 :=
  let a := x - (x.sshiftRight 1 &&& 1431655765#32)
  let b := (a &&& 858993459#32) + (a.sshiftRight 2 &&& 858993459#32)
  let c := (b + b.sshiftRight 4) &&& 252645135#32
  (c + c.sshiftRight 8) &&& 31#32

/-- On every word of two bytes `popWord` is the number of ones among its sixteen bits. -/
theorem popWord_bytes : ∀ h : Fin 256, ∀ l : Fin 256, (popWord (BitVec.ofNat 32 (h.val * 256 + l.val))).toNat
    = l.val % 2 + l.val / 2 % 2 + l.val / 4 % 2 + l.val / 8 % 2 + l.val / 16 % 2 + l.val / 32 % 2 + l.val / 64 % 2 + l.val / 128 % 2
      + (h.val % 2 + h.val / 2 % 2 + h.val / 4 % 2 + h.val / 8 % 2 + h.val / 16 % 2 + h.val / 32 % 2 + h.val / 64 % 2 + h.val / 128 % 2) := by
  decide +kernel

/-- The low eight digits of a number are those of its low byte. -/
theorem low_digit (n i : Nat) (hi : i < 8) : n % 256 / 2 ^ i % 2 = n / 2 ^ i % 2 := by
  have h : (256 : Nat) = 2 ^ i * 2 ^ (8 - i) := by rw [← pow_add, Nat.add_sub_cancel' (by omega)]; rfl
  rw [h, Nat.mod_mul_right_div_self]
  exact Nat.mod_mod_of_dvd _ (dvd_pow_self 2 (by omega))

/-- The next eight digits of a number are the low ones of the number over `256`. -/
theorem high_digit (n i : Nat) : n / 256 / 2 ^ i % 2 = n / 2 ^ (8 + i) % 2 := by
  have h : (2 : Nat) ^ (8 + i) = 256 * 2 ^ i := by rw [pow_add]; rfl
  rw [h, Nat.div_div_eq_div_mul]

/-- The ones among sixteen binary digits, counted byte by byte. -/
theorem count_two_bytes (n : Nat) : count 2 1 n
    = (∑ k ∈ Finset.range 8, n % 256 / 2 ^ k % 2) + ∑ k ∈ Finset.range 8, n / 256 / 2 ^ k % 2 := by
  have one : ∀ d : Nat, (if d % 2 = 1 then 1 else 0) = d % 2 := fun d => by split <;> omega
  unfold count digit
  simp only [one]
  rw [Fin.sum_univ_eq_sum_range (fun k => n / 2 ^ k % 2) 16, show (16 : Nat) = 8 + 8 from rfl, Finset.sum_range_add]
  congr 1
  · exact Finset.sum_congr rfl fun k hk => (low_digit n k (Finset.mem_range.mp hk)).symm
  · exact Finset.sum_congr rfl fun k _ => (high_digit n k).symm

/-- On a word below `2 ^ 16` `popWord` is the number of ones among the number's sixteen lowest digits. -/
theorem popWord_eq (x : BitVec 32) (hx : x.toNat < 65536) : (popWord x).toNat = count 2 1 x.toNat := by
  have key := popWord_bytes ⟨x.toNat / 256, by omega⟩ ⟨x.toNat % 256, Nat.mod_lt _ (by norm_num)⟩
  dsimp only at key
  rw [Nat.div_add_mod', BitVec.ofNat_toNat, BitVec.setWidth_eq] at key
  rw [key, count_two_bytes]
  simp only [Finset.sum_range_succ, Finset.sum_range_zero, Nat.reducePow, Nat.div_one, Nat.zero_add]

/-- `popWord` of any word is small, so its signed reading is its unsigned one. -/
theorem popWord_toInt (x : BitVec 32) : (popWord x).toInt = (popWord x).toNat := by
  have h : (popWord x).toNat ≤ 31 := by
    unfold popWord
    rw [BitVec.toNat_and]
    exact Nat.and_le_right
  rw [BitVec.toInt_eq_toNat_cond, if_pos (by omega)]

end Cert.Nary
-- ==== Proof.Rounds.lean ====
/-
  One round of the kernel's base-three digit extraction, over the extended reals: a natural number held as a real is divided by
  three through a multiplication by a number near one third and a floor, and the remainder is compared with a digit.
-/
module

public import proofs.«01_k».proof.Proof.Digits
public import Idealize.ShloMosaic.Lib.IdealHost
public import Mathlib.Tactic.Ring

@[expose] public section

noncomputable section

namespace Cert.Nary

open Idealize.ShloMosaic

/-! ## The literals -/

/-- The literal `0.5`. -/
theorem lit_half : Ideal.ofBits .f32 0x3F000000#32 = ((1 / 2 : ℝ) : EReal) := by
  simp [Ideal.ofBits, Ideal.ieee, -EReal.coe_mul]; norm_num

/-- The literal near one third: it is `(1 + 2 ^ -25) / 3`. -/
theorem lit_third : Ideal.ofBits .f32 0x3EAAAAAB#32 = ((11184811 / 33554432 : ℝ) : EReal) := by
  simp [Ideal.ofBits, Ideal.ieee, -EReal.coe_mul]; norm_num

/-- The literal `2`. -/
theorem lit_two : Ideal.ofBits .f32 0x40000000#32 = ((2 : ℝ) : EReal) := by
  simp [Ideal.ofBits, Ideal.ieee, -EReal.coe_mul]; norm_num

/-- The literal `3`. -/
theorem lit_three : Ideal.ofBits .f32 0x40400000#32 = ((3 : ℝ) : EReal) := by
  simp [Ideal.ofBits, Ideal.ieee, -EReal.coe_mul]; norm_num

/-- The literal `16`. -/
theorem lit_sixteen : Ideal.ofBits .f32 0x41800000#32 = ((16 : ℝ) : EReal) := by
  simp [Ideal.ofBits, Ideal.ieee, -EReal.coe_mul]; norm_num

/-! ## One round -/

/-- A natural number as an extended real. -/
def nat (n : Nat) : EReal := ((n : ℝ) : EReal)

/-- Half a unit added, times a number slightly above one third, rounded down: division by three, for numbers below `3 ^ 10`. -/
theorem floor_third (n : Nat) (hn : n < 59049) : ⌊((n : ℝ) + 1 / 2) * (11184811 / 33554432)⌋ = ((n / 3 : Nat) : ℤ) := by
  have hq : (n : ℝ) = 3 * ((n / 3 : Nat) : ℝ) + ((n % 3 : Nat) : ℝ) := by exact_mod_cast (Nat.div_add_mod n 3).symm
  have hr : ((n % 3 : Nat) : ℝ) ≤ 2 := by exact_mod_cast (by omega : n % 3 ≤ 2)
  have hr0 : (0 : ℝ) ≤ ((n % 3 : Nat) : ℝ) := Nat.cast_nonneg _
  have hb : ((n / 3 : Nat) : ℝ) ≤ 19683 := by exact_mod_cast (by omega : n / 3 ≤ 19683)
  have hb0 : (0 : ℝ) ≤ ((n / 3 : Nat) : ℝ) := Nat.cast_nonneg _
  rw [Int.floor_eq_iff]
  rw [hq, Int.cast_natCast]
  constructor <;> linarith

/-- The quotient a round computes. -/
theorem round_quotient (n : Nat) (hn : n < 59049) :
    Ideal.liftRound Int.floor ((nat n + ((1 / 2 : ℝ) : EReal)) * ((11184811 / 33554432 : ℝ) : EReal)) = nat (n / 3) := by
  unfold nat
  rw [← EReal.coe_add, ← EReal.coe_mul, Ideal.liftRound_coe, floor_third n hn, Int.cast_natCast]

/-- The remainder a round computes. -/
theorem round_remainder (n : Nat) : nat n - ((3 : ℝ) : EReal) * nat (n / 3) = nat (n % 3) := by
  have hq : (n : ℝ) = 3 * ((n / 3 : Nat) : ℝ) + ((n % 3 : Nat) : ℝ) := by exact_mod_cast (Nat.div_add_mod n 3).symm
  unfold nat
  rw [← EReal.coe_mul, ← EReal.coe_sub, EReal.coe_eq_coe_iff]
  linarith

/-- Equal natural numbers are equal as extended reals and conversely. -/
theorem nat_inj (a b : Nat) : nat a = nat b ↔ a = b := by
  unfold nat; rw [EReal.coe_eq_coe_iff, Nat.cast_inj]

/-- Sums of natural numbers are taken alike in both. -/
theorem nat_add (a b : Nat) : nat a + nat b = nat (a + b) := by
  unfold nat; rw [← EReal.coe_add, Nat.cast_add]

/-- Zero. -/
theorem nat_zero : nat 0 = 0 := by simp [nat]

/-- One. -/
theorem nat_one : nat 1 = 1 := by simp [nat]

/-- Two, as the kernel's literal reads. -/
theorem nat_two : nat 2 = ((2 : ℝ) : EReal) := by simp [nat]

end Cert.Nary

end
-- ==== Proof.Features.lean ====
/-
  What one block of the kernel computes of its indices: the number of ones among the base-two digits, the numbers of ones and of twos among
  the base-three digits, and a column of ones, side by side.
-/
module

public import proofs.«01_k».proof.Proof.Gen.KernelIdeal.Frame
public import proofs.«01_k».proof.Proof.Popcount
public import proofs.«01_k».proof.Proof.Rounds
public import Idealize.ShloMosaic.Lib.Pointwise
public import Idealize.ShloMosaic.Lib.IdealHost

@[expose] public section

set_option maxRecDepth 16384

noncomputable section

namespace Cert.Nary

open Idealize.ShloMosaic Idealize.ShloMosaic.TcCoe Idealize.SL.Sem
open Cert.KernelIdeal Cert.KernelIdeal.Gen

/-- A block's worth of one feature. -/
abbrev Feature := FVec Ideal S1024x26 .f32

/-- The same number everywhere. -/
def everywhere (w : BitVec 32) : Feature := broadcast S1024x26 (Scalar.ofBits (F := Ideal) .f32 w)

/-- One round's quotient. -/
def quotient (t : Feature) : Feature := floor (mulf (addf t (everywhere 0x3F000000#32)) (everywhere 0x3EAAAAAB#32))

/-- What is left of the numbers after `k` rounds. -/
def rest (t : Feature) : Nat → Feature
  | 0 => t
  | k + 1 => quotient (rest t k)

/-- One where the round's remainder is the number given, else zero. -/
def hit (w : BitVec 32) (t : Feature) : Feature :=
  sitofp .f32 (extui 32 (cmpf .oeq (subf t (mulf (everywhere 0x40400000#32) (quotient t))) (everywhere w)) natLt_1_32)

/-- The number of the first `k` rounds whose remainder is the number given. -/
def hits (w : BitVec 32) (t : Feature) : Nat → Feature
  | 0 => everywhere 0x00000000#32
  | k + 1 => addf (hits w t k) (hit w (rest t k))

/-- The left factor of the kernel's products: four features side by side. -/
theorem features_eq (x0 : Vec Ideal S26x1024 .i32) (x1 : Vec Ideal S104x3328 .bf16) : k0_pay73 x0 x1
    = truncf .bf16 (concatenate S1024x104 1 [⟨S1024x26, k0_pay4 (View.ld x0 r0_0)⟩, ⟨S1024x26, hits 0x3F800000#32 (k0_pay5 (View.ld x0 r0_0)) 10⟩,
        ⟨S1024x26, hits 0x40000000#32 (k0_pay5 (View.ld x0 r0_0)) 10⟩, ⟨S1024x26, everywhere 0x3F800000#32⟩]
        concatenates_S1024x26_S1024x26_S1024x26_S1024x26_S1024x104_d1) bitsLt_bf16_f32 := rfl

/-- A round at one entry: division by three. -/
theorem quotient_at (t : Feature) (r : Fin 1024) (g : Fin 26) (n : Nat) (hn : n < 59049) (h : t (ix2 r g) = nat n) :
    quotient t (ix2 r g) = nat (n / 3) := by
  unfold quotient everywhere
  pointwise []
  rw [h, lit_half, lit_third]
  exact round_quotient n hn

/-- The rest at one entry. -/
theorem rest_at (t : Feature) (r : Fin 1024) (g : Fin 26) (n : Nat) (hn : n < 59049) (h : t (ix2 r g) = nat n) (k : Nat) :
    rest t k (ix2 r g) = nat (n / 3 ^ k) := by
  induction k with
  | zero => rw [pow_zero, Nat.div_one]; exact h
  | succ k ih =>
    rw [pow_succ, ← Nat.div_div_eq_div_mul]
    exact quotient_at (rest t k) r g _ (lt_of_le_of_lt (Nat.div_le_self _ _) hn) ih

/-- A word that is not negative, as a number. -/
theorem number_of_word (x : BitVec 32) (n : Nat) (h : x.toInt = n) : FloatOps.sitofp (F := Ideal) .f32 x = nat n := by
  show ((x.toInt : ℝ) : EReal) = ((n : ℝ) : EReal)
  rw [h, Int.cast_natCast]

/-- A comparison's word as a number. -/
theorem word_of_bool (p : Prop) [Decidable p] :
    FloatOps.sitofp (F := Ideal) .f32 (BitVec.setWidth 32 (BitVec.ofBool (decide p))) = nat (if p then 1 else 0) := by
  apply number_of_word
  by_cases h : p
  · rw [decide_eq_true h, if_pos h]; rfl
  · rw [decide_eq_false h, if_neg h]; rfl

/-- A hit at one entry. -/
theorem hit_at (w : BitVec 32) (v : Nat) (hw : Ideal.ofBits .f32 w = nat v) (t : Feature) (r : Fin 1024) (g : Fin 26) (n : Nat) (hn : n < 59049)
    (h : t (ix2 r g) = nat n) : hit w t (ix2 r g) = nat (if n % 3 = v then 1 else 0) := by
  have hq := quotient_at t r g n hn h
  unfold hit
  generalize quotient t = q at hq
  unfold everywhere
  pointwise []
  rw [word_of_bool, h, hq, hw, lit_three, round_remainder]
  simp only [nat_inj]

/-- The hits at one entry. -/
theorem hits_at (w : BitVec 32) (v : Nat) (hw : Ideal.ofBits .f32 w = nat v) (t : Feature) (r : Fin 1024) (g : Fin 26) (n : Nat) (hn : n < 59049)
    (h : t (ix2 r g) = nat n) (k : Nat) : hits w t k (ix2 r g) = nat (∑ i ∈ Finset.range k, if n / 3 ^ i % 3 = v then 1 else 0) := by
  induction k with
  | zero =>
    unfold hits everywhere
    pointwise []
    rw [Finset.sum_range_zero, nat_zero]
  | succ k ih =>
    have hh := hit_at w v hw (rest t k) r g _ (lt_of_le_of_lt (Nat.div_le_self _ _) hn) (rest_at t r g n hn h k)
    show addf (hits w t k) (hit w (rest t k)) (ix2 r g) = _
    rw [Finset.sum_range_succ, ← nat_add, ← ih, ← hh]
    rfl

/-- The numbers themselves at one entry. -/
theorem numbers_at (x0 : Vec Ideal S26x1024 .i32) (r : Fin 1024) (g : Fin 26) (hx : BitVec.toNat (x0 (ix2 g r)) < 59049) :
    k0_pay5 (View.ld x0 r0_0) (ix2 r g) = nat (BitVec.toNat (x0 (ix2 g r))) := by
  have hi : BitVec.toInt (x0 (ix2 g r)) = (BitVec.toNat (x0 (ix2 g r)) : Int) := by
    rw [BitVec.toInt_eq_toNat_cond, if_pos (by omega)]
  pointwise [k0_pay5, k0_pay3]
  exact number_of_word _ _ hi

/-- The population counts at one entry. -/
theorem ones_at (x0 : Vec Ideal S26x1024 .i32) (r : Fin 1024) (g : Fin 26) (hx : BitVec.toNat (x0 (ix2 g r)) < 59049) :
    k0_pay4 (View.ld x0 r0_0) (ix2 r g) = nat (count 2 1 (BitVec.toNat (x0 (ix2 g r)))) := by
  pointwise [k0_pay4, k0_pay3]
  rw [← popWord_eq _ (by omega)]
  exact number_of_word (popWord (x0 (ix2 g r))) _ (popWord_toInt _)

end Cert.Nary

end
-- ==== Proof.Block.lean ====
/-
  What one block of the kernel stores: for every field the product of the features with that field's 128 columns of the table matrix.
-/
module

public import proofs.«01_k».proof.Proof.Features
public import Idealize.ShloMosaic.Lib.Pipeline.ValueKit

@[expose] public section

set_option maxRecDepth 16384

noncomputable section

namespace Cert.Nary

open Idealize.ShloMosaic Idealize.ShloMosaic.TcCoe Idealize.SL.Sem
open Cert.KernelIdeal Cert.KernelIdeal.Gen

/-- One field's product, under a new leading axis of length one. -/
def product (A : FVec Ideal S1024x104 .bf16) (B : FVec Ideal S104x128 .bf16) : FVec Ideal S1x1024x128 .f32 :=
  shapeCast S1x1024x128 (matmul dot_S1024x104_S104x128_S1024x128_1_0_0_1_n_n none A (shapeCast S104x128 B shapeCasts_S104x128_S104x128)
    (constant S1024x128 .f32 0x00000000#32)) shapeCasts_S1024x128_S1x1024x128

/-- The product at one entry. -/
theorem product_at (A : FVec Ideal S1024x104 .bf16) (B : FVec Ideal S104x128 .bf16) (z : Fin 1) (r : Fin 1024) (j : Fin 128) :
    product A B (ix3 z r j) = ∑ k : Fin 104, A (ix2 r k) * B (ix2 k j) := by
  pointwise [product]

/-- One field's product, where its right factor is that field's 128 columns of the matrix, at the entry of the stored block on which it lands. -/
theorem product_lands (A : FVec Ideal S1024x104 .bf16) (B : FVec Ideal S104x128 .bf16) (M : Vec Ideal S104x3328 .bf16) (x : S1x1024x128.Idx)
    (g : Fin 26) (r : Fin 1024) (j : Fin 128)
    (hB : ∀ (k : Fin 104) (l : Fin 128), B (ix2 k l) = M (ix2 k (⟨128 * g.val + l.val, by omega⟩ : Fin 3328)))
    (h1 : r.val = (x 1).val) (h2 : j.val = (x 2).val) :
    product A B x = ∑ k : Fin 104, A (ix2 r k) * M (ix2 k (⟨128 * g.val + j.val, by omega⟩ : Fin 3328)) := by
  idx_vars x
  obtain rfl : r = x1 := Fin.ext h1
  obtain rfl : j = x2 := Fin.ext h2
  rw [product_at]
  exact Finset.sum_congr rfl fun k _ => congrArg (A (ix2 r k) * ·) (hB k j)

/-- The block stored, at one entry. -/
theorem out_at (X : Vec Ideal S26x1024 .i32) (M : Vec Ideal S104x3328 .bf16) (g : Fin 26) (r : Fin 1024) (j : Fin 128) :
    out0_2 X M (ix3 g r j) = ∑ k : Fin 104, k0_pay73 X M (ix2 r k) * M (ix2 k (⟨128 * g.val + j.val, by omega⟩ : Fin 3328)) := by
  unfold out0_2
  canon_tiles x h
  all_goals
    refine product_lands (k0_pay73 X M) _ M x g r j (fun k l => ?_) h1 h2
    refine congrArg M ?_
    change g.val = _ at h0
    blk_ext <;> simp <;> omega

end Cert.Nary

end
-- ==== Proof.Columns.lean ====
/-
  The four features of an index, at their columns.
-/
module

public import proofs.«01_k».proof.Proof.Features

@[expose] public section

set_option maxRecDepth 16384

noncomputable section

namespace Cert.Nary

open Idealize.ShloMosaic Idealize.ShloMosaic.TcCoe Idealize.SL.Sem
open Cert.KernelIdeal Cert.KernelIdeal.Gen

/-- Four features side by side. -/
def side (a b c d : Feature) : FVec Ideal S1024x104 .bf16 :=
  truncf .bf16 (concatenate S1024x104 1 [⟨S1024x26, a⟩, ⟨S1024x26, b⟩, ⟨S1024x26, c⟩, ⟨S1024x26, d⟩]
    concatenates_S1024x26_S1024x26_S1024x26_S1024x26_S1024x104_d1) bitsLt_bf16_f32

/-- The first feature's columns. -/
theorem side_first (a b c d : Feature) (r : Fin 1024) (g : Fin 26) :
    side a b c d (ix2 r (⟨g.val, by omega⟩ : Fin 104)) = a (ix2 r g) := by
  unfold side
  pointwise []

/-- The second feature's columns. -/
theorem side_second (a b c d : Feature) (r : Fin 1024) (g : Fin 26) :
    side a b c d (ix2 r (⟨26 + g.val, by omega⟩ : Fin 104)) = b (ix2 r g) := by
  unfold side
  pointwise []

/-- The third feature's columns. -/
theorem side_third (a b c d : Feature) (r : Fin 1024) (g : Fin 26) :
    side a b c d (ix2 r (⟨52 + g.val, by omega⟩ : Fin 104)) = c (ix2 r g) := by
  unfold side
  pointwise []
  rw [dif_neg (by omega), dif_neg (by omega), dif_pos (by omega)]
  exact congrArg (fun k => c (ix2 r k)) (Fin.ext (by simp only []; omega))

/-- The fourth feature's columns. -/
theorem side_fourth (a b c d : Feature) (r : Fin 1024) (g : Fin 26) :
    side a b c d (ix2 r (⟨78 + g.val, by omega⟩ : Fin 104)) = d (ix2 r g) := by
  unfold side
  pointwise []
  rw [dif_neg (by omega), dif_neg (by omega), dif_neg (by omega)]
  exact congrArg (fun k => d (ix2 r k)) (Fin.ext (by simp only []; omega))

end Cert.Nary

end
-- ==== Proof.Matrix.lean ====
/-
  The table matrix, right factor of the kernel's products: four bands of 26 rows, each holding for every field one row of 128 numbers on
  that field's columns and zero elsewhere.
-/
module

public import proofs.«01_k».proof.Proof.Rounds
public import proofs.«01_k».proof.Proof.Gen.KernelIdeal.Frame
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Nary

open Idealize.ShloMosaic Idealize.ShloMosaic.TcCoe Idealize.SL.Sem
open Cert.KernelIdeal Cert.KernelIdeal.Gen

/-- Two halves side by side. -/
def halves (a b : FVec Ideal S64 .f32) : FVec Ideal S128 .f32 := concatenate S128 0 [⟨S64, a⟩, ⟨S64, b⟩] concatenates_S64_S64_S128_d0

/-- The same number at every column of a half. -/
def level (w : BitVec 32) : FVec Ideal S64 .f32 := broadcastInDim S64 ![] bcast_S_S64 (constant (F := Ideal) S_ .f32 w)

/-- A row of the first table. -/
def first2 (W : FVec Ideal S2x64 .f32) : FVec Ideal S64 .f32 :=
  shapeCast S64 (extractStridedSlice S1x64 ![0, 0] W slices_S2x64_S1x64_0_0) shapeCasts_S1x64_S64
/-- The other row of the first table. -/
def second2 (W : FVec Ideal S2x64 .f32) : FVec Ideal S64 .f32 :=
  shapeCast S64 (extractStridedSlice S1x64 ![1, 0] W slices_S2x64_S1x64_1_0) shapeCasts_S1x64_S64
/-- The second table's row for the digit zero. -/
def first3 (W : FVec Ideal S3x64 .f32) : FVec Ideal S64 .f32 :=
  shapeCast S64 (extractStridedSlice S1x64 ![0, 0] W slices_S3x64_S1x64_0_0) shapeCasts_S1x64_S64
/-- The second table's row for the digit one. -/
def second3 (W : FVec Ideal S3x64 .f32) : FVec Ideal S64 .f32 :=
  shapeCast S64 (extractStridedSlice S1x64 ![1, 0] W slices_S3x64_S1x64_1_0) shapeCasts_S1x64_S64
/-- The second table's row for the digit two. -/
def third3 (W : FVec Ideal S3x64 .f32) : FVec Ideal S64 .f32 :=
  shapeCast S64 (extractStridedSlice S1x64 ![2, 0] W slices_S3x64_S1x64_2_0) shapeCasts_S1x64_S64

/-- The identity of the 26 fields. -/
def unit : FVec Ideal S26x26 .f32 :=
  uitofp .f32 (cmpi .eq (addi (iotaInDim S26x26 32 0) (broadcastInDim S26x26 ![] bcast_S_S26x26 (constantI S_ 32 0#32))) (iotaInDim S26x26 32 1))

/-- A row of 128 numbers on every field's own columns, zero elsewhere. -/
def band (R : FVec Ideal S128 .f32) : FVec Ideal S26x3328 .f32 :=
  shapeCast S26x3328 (mulf
    (broadcastInDim S26x26x128 ![0, 1, 2] bcast_S26x26x1_S26x26x128_0_1_2 (broadcastInDim S26x26x1 ![0, 1] bcast_S26x26_S26x26x1_0_1 unit))
    (broadcastInDim S26x26x128 ![0, 1, 2] bcast_S1x1x128_S26x26x128_0_1_2 (broadcastInDim S1x1x128 ![2] bcast_S128_S1x1x128_2 R)))
    shapeCasts_S26x26x128_S26x3328

/-- Four bands, one above the other. -/
def bands (a b c d : FVec Ideal S26x3328 .f32) : FVec Ideal S104x3328 .bf16 :=
  truncf .bf16 (concatenate S104x3328 0 [⟨S26x3328, a⟩, ⟨S26x3328, b⟩, ⟨S26x3328, c⟩, ⟨S26x3328, d⟩]
    concatenates_S26x3328_S26x3328_S26x3328_S26x3328_S104x3328_d0) bitsLt_bf16_f32

/-- The table matrix of two tables. -/
def tables (W2 : FVec Ideal S2x64 .f32) (W3 : FVec Ideal S3x64 .f32) : FVec Ideal S104x3328 .bf16 :=
  bands (band (halves (subf (second2 W2) (first2 W2)) (level 0x00000000#32)))
    (band (halves (level 0x00000000#32) (subf (second3 W3) (first3 W3))))
    (band (halves (level 0x00000000#32) (subf (third3 W3) (first3 W3))))
    (band (halves (mulf (level 0x41800000#32) (first2 W2)) (mulf (level 0x41800000#32) (first3 W3))))

/-- Equal bands give equal matrices. -/
theorem bands_congr {a b c d a' b' c' d' : FVec Ideal S26x3328 .f32} (ha : a = a') (hb : b = b') (hc : c = c') (hd : d = d') :
    bands a b c d = bands a' b' c' d' := by rw [ha, hb, hc, hd]

/-- The kernel's host part computes the table matrix of its two tables. -/
theorem entry_tables (m : (l : Loc nD τ sig) → Buf (Elt Ideal) l) (c : Dev nD) :
    Gen.V m c main_v59 = tables (m (c, Proc.devRef .tc main_arg1)) (m (c, Proc.devRef .tc main_arg2)) := by
  unfold Gen.V Gen.V0
  simp only [List.flatten_cons, List.flatten_nil, List.append_nil]
  after_reads_simp
  refine bands_congr ?_ ?_ ?_ ?_
  · change StableHlo.upto hostOps0 (fun b => m (c, b)) 62 (Proc.devRef .tc main_v39) = _
    after_reads_simp
    rfl
  · change StableHlo.upto hostOps0 (fun b => m (c, b)) 62 (Proc.devRef .tc main_v45) = _
    after_reads_simp
    rfl
  · change StableHlo.upto hostOps0 (fun b => m (c, b)) 62 (Proc.devRef .tc main_v51) = _
    after_reads_simp
    rfl
  · change StableHlo.upto hostOps0 (fun b => m (c, b)) 62 (Proc.devRef .tc main_v57) = _
    after_reads_simp
    rfl

/-- The kernel's host part turns the indices about. -/
theorem entry_indices (m : (l : Loc nD τ sig) → Buf (Elt Ideal) l) (c : Dev nD) (g : Fin 26) (b : Fin 16384) :
    Gen.V m c main_v60 (ix2 g b) = m (c, Proc.devRef .tc main_arg0) (ix2 b g) := by
  unfold Gen.V Gen.V0
  simp only [List.flatten_cons, List.flatten_nil, List.append_nil]
  after_reads_at

/-- The identity at one entry. -/
theorem unit_at (g f : Fin 26) : unit (ix2 g f) = nat (if g = f then 1 else 0) := by
  unfold unit
  pointwise []
  rw [show IntOp.cmpi .eq (IntOp.addi (BitVec.ofNat 32 g.val) 0#32) (BitVec.ofNat 32 f.val) = BitVec.ofBool (decide (g = f)) by
    revert g f; decide +kernel]
  show (((BitVec.ofBool (decide (g = f))).toNat : ℝ) : EReal) = _
  by_cases h : g = f <;> simp [h, nat]

/-- A band at one entry. -/
theorem band_at (R : FVec Ideal S128 .f32) (g f : Fin 26) (j : Fin 128) :
    band R (ix2 g (⟨128 * f.val + j.val, by omega⟩ : Fin 3328)) = nat (if g = f then 1 else 0) * R (ix1 j) := by
  rw [← unit_at]
  unfold band
  pointwise []

/-- The first band's rows. -/
theorem bands_first (a b c d : FVec Ideal S26x3328 .f32) (g : Fin 26) (l : Fin 3328) :
    bands a b c d (ix2 (⟨g.val, by omega⟩ : Fin 104) l) = a (ix2 g l) := by
  unfold bands
  pointwise []

/-- The second band's rows. -/
theorem bands_second (a b c d : FVec Ideal S26x3328 .f32) (g : Fin 26) (l : Fin 3328) :
    bands a b c d (ix2 (⟨26 + g.val, by omega⟩ : Fin 104) l) = b (ix2 g l) := by
  unfold bands
  pointwise []

/-- The third band's rows. -/
theorem bands_third (a b c d : FVec Ideal S26x3328 .f32) (g : Fin 26) (l : Fin 3328) :
    bands a b c d (ix2 (⟨52 + g.val, by omega⟩ : Fin 104) l) = c (ix2 g l) := by
  unfold bands
  pointwise []
  rw [dif_neg (by omega), dif_neg (by omega), dif_pos (by omega)]
  exact congrArg (fun k => c (ix2 k l)) (Fin.ext (by simp only []; omega))

/-- The fourth band's rows. -/
theorem bands_fourth (a b c d : FVec Ideal S26x3328 .f32) (g : Fin 26) (l : Fin 3328) :
    bands a b c d (ix2 (⟨78 + g.val, by omega⟩ : Fin 104) l) = d (ix2 g l) := by
  unfold bands
  pointwise []
  rw [dif_neg (by omega), dif_neg (by omega), dif_neg (by omega)]
  exact congrArg (fun k => d (ix2 k l)) (Fin.ext (by simp only []; omega))

/-- Two halves at one entry. -/
theorem halves_at (a b : FVec Ideal S64 .f32) (j : Fin 128) :
    halves a b (ix1 j) = if h : j.val < 64 then a (ix1 (⟨j.val, h⟩ : Fin 64)) else b (ix1 (⟨j.val - 64, by omega⟩ : Fin 64)) := by
  unfold halves
  pointwise []

end Cert.Nary

end
-- ==== Proof.Spec.lean ====
/-
  The mathematics of the problem: the embedding of an index is, in its first 64 columns, the sum of the first table's rows at the index's
  sixteen base-two digits and, in its last 64, the sum of the second table's rows at its sixteen base-three digits.
-/
module

public import proofs.«01_k».proof.Proof.Digits
public import Idealize.ShloMosaic.Lib.Pointwise

@[expose] public section

noncomputable section

namespace Cert.Nary

open Idealize.ShloMosaic

/-- The sum of a table's rows at a number's sixteen base-`b` digits. -/
def rowSum (b : Nat) (hb : 0 < b) (w : Fin b → EReal) (n : Nat) : EReal := ∑ k : Fin 16, w ⟨digit b n k.val, digit_lt b n k.val hb⟩

/-- Summed from the most significant digit or from the least, the sum is the same. -/
theorem rowSum_rev (b : Nat) (hb : 0 < b) (w : Fin b → EReal) (n : Nat) :
    (∑ k : Fin 16, w ⟨digit b n (15 - k.val), digit_lt b n _ hb⟩) = rowSum b hb w n := by
  refine Fintype.sum_equiv Fin.revPerm _ _ fun k => ?_
  refine congrArg w (Fin.ext ?_)
  show digit b n (15 - k.val) = digit b n (Fin.rev k).val
  rw [Fin.val_rev]
  exact congrArg (digit b n) (by omega)

/-- The embeddings of an array of indices. -/
def embedding (X : IVec (⟨2, ![16384, 26]⟩ : Shape) 32) (W2 : FVec Ideal (⟨2, ![2, 64]⟩ : Shape) .f32) (W3 : FVec Ideal (⟨2, ![3, 64]⟩ : Shape) .f32) :
    FVec Ideal (⟨3, ![16384, 26, 128]⟩ : Shape) .f32 := fun i =>
  if h : (i 2).val < 64 then
    rowSum 2 (by omega) (fun d => W2 (ix2 d (⟨(i 2).val, h⟩ : Fin 64))) (X (ix2 (i 0) (i 1))).toNat
  else
    rowSum 3 (by omega) (fun d => W3 (ix2 d (⟨(i 2).val - 64, by have : (i 2).val < 128 := (i 2).isLt; omega⟩ : Fin 64)))
      (X (ix2 (i 0) (i 1))).toNat

end Cert.Nary

end
-- ==== Proof.Equation.lean ====
/-
  The equation: the four terms that the products leave of a row of the table matrix are the sum of the table's rows at the digits.
-/
module

public import proofs.«01_k».proof.Proof.Spec
public import proofs.«01_k».proof.Proof.Rounds

@[expose] public section

noncomputable section

namespace Cert.Nary

open Idealize.ShloMosaic

/-- A sum over 104 columns, by its four runs of 26. -/
theorem sum_four (t : Fin 104 → EReal) : ∑ k : Fin 104, t k
    = (∑ g : Fin 26, t ⟨g.val, by omega⟩) + (∑ g : Fin 26, t ⟨26 + g.val, by omega⟩) + (∑ g : Fin 26, t ⟨52 + g.val, by omega⟩)
      + ∑ g : Fin 26, t ⟨78 + g.val, by omega⟩ := by
  rw [Fin.sum_univ_add (a := 78) (b := 26) t, Fin.sum_univ_add (a := 52) (b := 26) fun k => t (Fin.castAdd 26 k),
    Fin.sum_univ_add (a := 26) (b := 26) fun k => t (Fin.castAdd 26 (Fin.castAdd 26 k))]
  rfl

/-- Of a band only the field's own row is left. -/
theorem sum_own (a : Fin 26 → EReal) (x : EReal) (f : Fin 26) : ∑ g : Fin 26, a g * (nat (if g = f then 1 else 0) * x) = a f * x := by
  rw [Finset.sum_eq_single f]
  · rw [if_pos rfl, nat_one, one_mul]
  · intro g _ hg
    rw [if_neg hg, nat_zero, zero_mul, mul_zero]
  · exact fun h => absurd (Finset.mem_univ f) h

/-- A number of hits times a value is the value once for every hit. -/
theorem hits_mul {ι : Type} (s : Finset ι) (P : ι → Prop) [DecidablePred P] (x : EReal) :
    nat (∑ k ∈ s, if P k then 1 else 0) * x = ∑ k ∈ s, if P k then x else 0 := by
  classical
  induction s using Finset.induction_on with
  | empty => simp [nat]
  | insert a s ha ih =>
    rw [Finset.sum_insert ha, Finset.sum_insert ha, ← ih, ← nat_add]
    have hn (n : Nat) : (0 : EReal) ≤ nat n := EReal.coe_nonneg.mpr (Nat.cast_nonneg n)
    rw [EReal.right_distrib_of_nonneg (hn _) (hn _)]
    split
    · rw [nat_one, one_mul]
    · rw [nat_zero, zero_mul]

/-- A digit's count times a value is the value once for every place where the digit stands. -/
theorem count_mul (b v n : Nat) (x : EReal) : nat (count b v n) * x = ∑ k : Fin 16, if digit b n k.val = v then x else 0 :=
  hits_mul _ _ x

/-- A real sixteen times. -/
theorem sixteen_mul (u : ℝ) : ((16 : ℝ) : EReal) * (u : EReal) = ∑ _k : Fin 16, (u : EReal) := by
  rw [Finset.sum_const, Finset.card_univ, Fintype.card_fin, ← EReal.coe_mul, ← EReal.coe_nsmul, nsmul_eq_mul]
  norm_num

/-- A value is its difference from a real, and the real. -/
theorem difference_add (x : EReal) (u : ℝ) : x - (u : EReal) + (u : EReal) = x := EReal.sub_add_cancel

/-- Base two: the first row sixteen times, and the difference of the rows once for every one among the digits. -/
theorem two_rows (w : Fin 2 → EReal) (n : Nat) (h : ∃ u : ℝ, w 0 = (u : EReal)) :
    nat (count 2 1 n) * (w 1 - w 0) + ((16 : ℝ) : EReal) * w 0 = rowSum 2 (by omega) w n := by
  obtain ⟨u, hu⟩ := h
  rw [hu, count_mul, sixteen_mul, ← Finset.sum_add_distrib]
  refine Finset.sum_congr rfl fun k _ => ?_
  have hd (d : Fin 2) : (if d.val = 1 then w 1 - (u : EReal) else 0) + (u : EReal) = w d := by
    fin_cases d
    · simp [hu]
    · simp [difference_add]
  exact hd ⟨digit 2 n k.val, _⟩

/-- Base three: the first row sixteen times, and for every one and every two among the digits the difference of its row. -/
theorem three_rows (w : Fin 3 → EReal) (n : Nat) (h : ∃ u : ℝ, w 0 = (u : EReal)) :
    nat (count 3 1 n) * (w 1 - w 0) + nat (count 3 2 n) * (w 2 - w 0) + ((16 : ℝ) : EReal) * w 0 = rowSum 3 (by omega) w n := by
  obtain ⟨u, hu⟩ := h
  rw [hu, count_mul, count_mul, sixteen_mul, ← Finset.sum_add_distrib, ← Finset.sum_add_distrib]
  refine Finset.sum_congr rfl fun k _ => ?_
  have hd (d : Fin 3) : (if d.val = 1 then w 1 - (u : EReal) else 0) + (if d.val = 2 then w 2 - (u : EReal) else 0) + (u : EReal) = w d := by
    fin_cases d
    · simp [hu]
    · simp [difference_add]
    · simp [difference_add]
  exact hd ⟨digit 3 n k.val, _⟩

end Cert.Nary

end
-- ==== Proof.Entry.lean ====
/-
  One entry of the block that the kernel stores is the entry of the embedding.
-/
module

public import proofs.«01_k».proof.Proof.Block
public import proofs.«01_k».proof.Proof.Columns
public import proofs.«01_k».proof.Proof.Matrix
public import proofs.«01_k».proof.Proof.Equation

@[expose] public section

set_option maxRecDepth 16384

noncomputable section

namespace Cert.Nary

open Idealize.ShloMosaic Idealize.ShloMosaic.TcCoe Idealize.SL.Sem
open Cert.KernelIdeal Cert.KernelIdeal.Gen

/-- The literal `1`. -/
theorem lit_one : Ideal.ofBits .f32 0x3F800000#32 = nat 1 := by
  simp [Ideal.ofBits, Ideal.ieee, nat, -EReal.coe_mul]; norm_num

/-- The same number everywhere, at one entry. -/
theorem everywhere_at (w : BitVec 32) (r : Fin 1024) (g : Fin 26) : everywhere w (ix2 r g) = Ideal.ofBits .f32 w := by
  unfold everywhere
  pointwise []

/-- The number of remainders equal to a digit other than zero is the number of that digit among the sixteen. -/
theorem hits_count (x0 : Vec Ideal S26x1024 .i32) (w : BitVec 32) (v : Nat) (hv : v ≠ 0) (hw : Ideal.ofBits .f32 w = nat v) (r : Fin 1024)
    (g : Fin 26) (hx : BitVec.toNat (x0 (ix2 g r)) < 59049) :
    hits w (k0_pay5 (View.ld x0 r0_0)) 10 (ix2 r g) = nat (count 3 v (BitVec.toNat (x0 (ix2 g r)))) := by
  rw [count_three_eq_ten v _ hv hx]
  exact hits_at w v hw _ r g _ hx (numbers_at x0 r g hx) 10

/-- The products at one entry: of each band the field's own row, times the index's feature. -/
theorem block_terms (x0 : Vec Ideal S26x1024 .i32) (p c1 c2 b : FVec Ideal S128 .f32) (g : Fin 26) (r : Fin 1024) (j : Fin 128)
    (hx : BitVec.toNat (x0 (ix2 g r)) < 59049) :
    out0_2 x0 (bands (band p) (band c1) (band c2) (band b)) (ix3 g r j)
      = nat (count 2 1 (BitVec.toNat (x0 (ix2 g r)))) * p (ix1 j) + nat (count 3 1 (BitVec.toNat (x0 (ix2 g r)))) * c1 (ix1 j)
        + nat (count 3 2 (BitVec.toNat (x0 (ix2 g r)))) * c2 (ix1 j) + b (ix1 j) := by
  have hA : k0_pay73 x0 (bands (band p) (band c1) (band c2) (band b)) = side (k0_pay4 (View.ld x0 r0_0))
      (hits 0x3F800000#32 (k0_pay5 (View.ld x0 r0_0)) 10) (hits 0x40000000#32 (k0_pay5 (View.ld x0 r0_0)) 10) (everywhere 0x3F800000#32) :=
    features_eq x0 _
  rw [out_at, hA, sum_four]
  simp only [side_first, side_second, side_third, side_fourth, bands_first, bands_second, bands_third, bands_fourth, band_at]
  rw [sum_own (fun f => k0_pay4 (View.ld x0 r0_0) (ix2 r f)), sum_own (fun f => hits 0x3F800000#32 (k0_pay5 (View.ld x0 r0_0)) 10 (ix2 r f)),
    sum_own (fun f => hits 0x40000000#32 (k0_pay5 (View.ld x0 r0_0)) 10 (ix2 r f)), sum_own (fun f => everywhere 0x3F800000#32 (ix2 r f))]
  rw [ones_at x0 r g hx, hits_count x0 _ 1 (by omega) lit_one r g hx, hits_count x0 _ 2 (by omega) (lit_two.trans nat_two.symm) r g hx,
    everywhere_at, lit_one, nat_one, one_mul]

/-- The entries of the rows that the table matrix is built from. -/
theorem level_at (w : BitVec 32) (l : Fin 64) : level w (ix1 l) = Ideal.ofBits .f32 w := by
  unfold level
  pointwise []
/-- A difference of rows of the first table. -/
theorem difference2 (W : FVec Ideal S2x64 .f32) (l : Fin 64) :
    subf (second2 W) (first2 W) (ix1 l) = W (ix2 (1 : Fin 2) l) - W (ix2 (0 : Fin 2) l) := by
  pointwise [first2, second2]
/-- A difference of rows of the second table. -/
theorem difference3 (W : FVec Ideal S3x64 .f32) (l : Fin 64) :
    subf (second3 W) (first3 W) (ix1 l) = W (ix2 (1 : Fin 3) l) - W (ix2 (0 : Fin 3) l) := by
  pointwise [first3, second3]
/-- The other difference of rows of the second table. -/
theorem other_difference3 (W : FVec Ideal S3x64 .f32) (l : Fin 64) :
    subf (third3 W) (first3 W) (ix1 l) = W (ix2 (2 : Fin 3) l) - W (ix2 (0 : Fin 3) l) := by
  pointwise [first3, third3]
/-- Sixteen times a row of the first table. -/
theorem sixteen2 (W : FVec Ideal S2x64 .f32) (l : Fin 64) :
    mulf (level 0x41800000#32) (first2 W) (ix1 l) = ((16 : ℝ) : EReal) * W (ix2 (0 : Fin 2) l) := by
  rw [← lit_sixteen]
  pointwise [level, first2]
/-- Sixteen times a row of the second table. -/
theorem sixteen3 (W : FVec Ideal S3x64 .f32) (l : Fin 64) :
    mulf (level 0x41800000#32) (first3 W) (ix1 l) = ((16 : ℝ) : EReal) * W (ix2 (0 : Fin 3) l) := by
  rw [← lit_sixteen]
  pointwise [level, first3]

/-- An entry of the kernel's block is the sum of the tables' rows at the digits of the index, where the tables' first rows hold
    reals. -/
theorem entry_value (x0 : Vec Ideal S26x1024 .i32) (W2 : FVec Ideal S2x64 .f32) (W3 : FVec Ideal S3x64 .f32) (g : Fin 26) (r : Fin 1024)
    (j : Fin 128) (hx : BitVec.toNat (x0 (ix2 g r)) < 59049) (h2 : ∀ l, ∃ u : ℝ, W2 (ix2 (0 : Fin 2) l) = (u : EReal))
    (h3 : ∀ l, ∃ u : ℝ, W3 (ix2 (0 : Fin 3) l) = (u : EReal)) :
    out0_2 x0 (tables W2 W3) (ix3 g r j)
      = if h : j.val < 64 then rowSum 2 (by omega) (fun d => W2 (ix2 d (⟨j.val, h⟩ : Fin 64))) (BitVec.toNat (x0 (ix2 g r)))
        else rowSum 3 (by omega) (fun d => W3 (ix2 d (⟨j.val - 64, by omega⟩ : Fin 64))) (BitVec.toNat (x0 (ix2 g r))) := by
  have hz : Ideal.ofBits .f32 0x00000000#32 = (0 : EReal) := by simp [Ideal.ofBits, Ideal.ieee]
  unfold tables
  rw [block_terms x0 _ _ _ _ g r j hx]
  simp only [halves_at]
  by_cases h : j.val < 64
  · simp only [dif_pos h, level_at, difference2, sixteen2, hz, mul_zero, add_zero]
    exact two_rows (fun d => W2 (ix2 d (⟨j.val, h⟩ : Fin 64))) _ (h2 _)
  · simp only [dif_neg h, level_at, difference3, other_difference3, sixteen3, hz, mul_zero, zero_add]
    exact three_rows (fun d => W3 (ix2 d (⟨j.val - 64, by omega⟩ : Fin 64))) _ (h3 _)

end Cert.Nary

end
-- ==== Proof.KernelValue.lean ====
/-
  The kernel's result: the array that the call returns, block after block, turned about by the host part, is the embedding.
-/
module

public import proofs.«01_k».proof.Proof.Entry

@[expose] public section

set_option maxRecDepth 16384

noncomputable section

namespace Cert.Nary

open Idealize.ShloMosaic Idealize.ShloMosaic.TcCoe Idealize.SL.Sem
open Cert.KernelIdeal Cert.KernelIdeal.Gen

variable (m : (l : Loc nD τ sig) → Buf (Elt Ideal) l)

/-- Which block each window takes at a grid point. -/
theorem idx : ∀ t : Fin cfg0.N, win0_0.index t = ![0, t.val] ∧ win0_1.index t = ![0, 0] ∧ win0_2.index t = ![0, t.val, 0] :=
  (by decide +kernel : ∀ t : Fin grid0.N, _)

/-- The block of indices at a grid point: the 1024 batch entries of that point, one field per row. -/
theorem indices_block (c : Dev nD) (t : Fin cfg0.N) (g : Fin 26) (r : Fin 1024) :
    (iblk m c 0 t : Vec Ideal S26x1024 .i32) (ix2 g r)
      = m (c, Proc.devRef .tc main_arg0) (ix2 (⟨1024 * t.val + r.val, by have : t.val < 16 := t.isLt; omega⟩ : Fin 16384) g) := by
  refine Eq.trans ?_ (entry_indices m c g _)
  blk_ext [iblk, idx t]

/-- The block of the table matrix at every grid point is the whole of it. -/
theorem tables_block (c : Dev nD) (t : Fin cfg0.N) :
    (iblk m c 1 t : Vec Ideal S104x3328 .bf16) = tables (m (c, Proc.devRef .tc main_arg1)) (m (c, Proc.devRef .tc main_arg2)) := by
  refine Eq.trans ?_ (entry_tables m c)
  funext y
  idx_vars y
  blk_ext [iblk, idx t]

/-- The embedding, field first. -/
def turned (E : FVec Ideal S16384x26x128 .f32) : FVec Ideal S26x16384x128 .f32 := fun i => E (ix3 (i 1) (i 0) (i 2))

/-- The array that the call returns. -/
theorem array_value (c : Dev nD) (hX : ∀ b f, BitVec.toNat (m (c, Proc.devRef .tc main_arg0) (ix2 b f)) < 59048)
    (h2 : ∀ l, ∃ u : ℝ, m (c, Proc.devRef .tc main_arg1) (ix2 (0 : Fin 2) l) = (u : EReal))
    (h3 : ∀ l, ∃ u : ℝ, m (c, Proc.devRef .tc main_arg2) (ix2 (0 : Fin 3) l) = (u : EReal)) :
    (dats m 0 c).arrAt 2 cfg0.N = turned (embedding (m (c, Proc.devRef .tc main_arg0)) (m (c, Proc.devRef .tc main_arg1)) (m (c, Proc.devRef .tc main_arg2))) := by
  refine (dats m 0 c).arrAt_eq_of_covers 2 _ (by decide +kernel) fun t hf y => ?_
  blk_simp
  rw [after0_2]
  change out0_2 (iblk m c 0 t) (iblk m c 1 t) y = _
  idx_vars y
  have hb : t.val < 16 := t.isLt
  have he : (win0_2.blk t).view.emb (ix3 y0 y1 y2) = ix3 y0 (⟨1024 * t.val + y1.val, by omega⟩ : Fin 16384) y2 := by
    blk_ext [idx t]
  rw [he]
  have hi := indices_block m c t y0 y1
  refine (congrArg (fun M => out0_2 (iblk m c 0 t) M (ix3 y0 y1 y2)) (tables_block m c t)).trans ?_
  refine (entry_value _ _ _ y0 y1 y2 (by rw [hi]; exact (hX _ _).trans (by omega)) h2 h3).trans ?_
  rw [hi]
  rfl

/-- What the lines after the call leave in the result. -/
theorem result_value (c : Dev nD) (hX : ∀ b f, BitVec.toNat (m (c, Proc.devRef .tc main_arg0) (ix2 b f)) < 59048)
    (h2 : ∀ l, ∃ u : ℝ, m (c, Proc.devRef .tc main_arg1) (ix2 (0 : Fin 2) l) = (u : EReal))
    (h3 : ∀ l, ∃ u : ℝ, m (c, Proc.devRef .tc main_arg2) (ix2 (0 : Fin 3) l) = (u : EReal)) :
    Pipeline.afterTail₀ cfgs (dats m) 0 (V0 m) [hostOps1] c main_v62
      = embedding (m (c, Proc.devRef .tc main_arg0)) (m (c, Proc.devRef .tc main_arg1)) (m (c, Proc.devRef .tc main_arg2)) := by
  have ha := array_value m c hX h2 h3
  unfold Pipeline.afterTail₀
  simp only [List.flatten_cons, List.flatten_nil, List.append_nil]
  after_results
  have hw : Pipeline.withArrays (cfgs 0).spec c (V0 m c) (fun w => (dats m 0 c).arrAt w (cfgs 0).N) (Proc.devRef .tc main_v61)
      = turned (embedding (m (c, Proc.devRef .tc main_arg0)) (m (c, Proc.devRef .tc main_arg1)) (m (c, Proc.devRef .tc main_arg2))) :=
    (Pipeline.withArrays_arr (cfgs 0).spec (by decide +kernel) c (V0 m c) (fun w => (dats m 0 c).arrAt w (cfgs 0).N) 2).trans ha
  refine (congrArg (fun A => transpose S16384x26x128 [1, 0, 2] A transposes_S26x16384x128_S16384x26x128_1_0_2) hw).trans ?_
  generalize embedding _ _ _ = E
  funext i
  idx_vars i
  pointwise [turned]

/-- The kernel's run: its result is the embedding of its arguments, which it leaves as they were. -/
theorem kernel_run (ρ : Dev nD → PrngReg) (hX : ∀ c b f, BitVec.toNat (m (c, Proc.devRef .tc main_arg0) (ix2 b f)) < 59048)
    (h2 : ∀ c l, ∃ u : ℝ, m (c, Proc.devRef .tc main_arg1) (ix2 (0 : Fin 2) l) = (u : EReal))
    (h3 : ∀ c l, ∃ u : ℝ, m (c, Proc.devRef .tc main_arg2) (ix2 (0 : Fin 3) l) = (u : EReal)) :
    θ_run (defs (F := Ideal)) (onTc (τ := τ) (main (F := Ideal))) ⟨m, fun _ => 0, ρ⟩ (fun r => ∀ c : Dev nD,
      r.2.mem ((c.tc : Thread nD τ).loc main_v62)
        = embedding (m (c, Proc.devRef .tc main_arg0)) (m (c, Proc.devRef .tc main_arg1)) (m (c, Proc.devRef .tc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v62 (Pipeline.mem_restRefs_of main_v62 (by decide) (by decide))).trans
      (result_value m c (hX c) (h2 c) (h3 c)), h.2 c⟩)
    (θ_run_and (run_main m ρ) (unchanged m ρ))

end Cert.Nary

end
-- ==== Proof.Take.lean ====
/-
  The reference's words: Python's floor division and remainder of a word by a positive one, and the row that `take` reads of a table
  at an index that is in range.
-/
module

public import Idealize.ShloMosaic.Lib.Pointwise
public import Idealize.ShloMosaic.Lib.Routing.Words
public import Idealize.ShloMosaic.Lib.Routing.BitFacts

@[expose] public section

set_option maxRecDepth 16384

noncomputable section

namespace Cert.Nary

open Idealize.ShloMosaic Idealize.ShloMosaic.Routing

/-- The sign of a word: `-1`, `0` or `1`. -/
def sign (x : BitVec 32) : BitVec 32 := if x = 0 then 0 else if x.msb = true then -1 else 1

/-- Floor division as the reference spells it: the quotient rounded toward zero, one less where the signs differ and the division
    is not exact. -/
def floorDiv (x p : BitVec 32) : BitVec 32 :=
  Scalar.select (IntOp.andi (IntOp.cmpi .ne (sign x) (sign p)) (IntOp.cmpi .ne (IntOp.remsi .host x p) 0#32))
    (IntOp.subi (IntOp.divsi .host x p) 1#32) (IntOp.divsi .host x p)

/-- The remainder of floor division as the reference spells it: the remainder of the dividend's sign, plus the divisor where the
    two signs differ and it is not zero. -/
def floorRem (x p : BitVec 32) : BitVec 32 :=
  Scalar.select (IntOp.andi (IntOp.cmpi .ne (IntOp.cmpi .slt (IntOp.remsi .host x p) 0#32) (IntOp.cmpi .slt p 0#32))
      (IntOp.cmpi .ne (IntOp.remsi .host x p) 0#32))
    (IntOp.addi (IntOp.remsi .host x p) p) (IntOp.remsi .host x p)

/-- A word below `2 ^ 31` is not negative. -/
theorem slt_zero {a : Nat} (ha : a < 2 ^ 31) : IntOp.cmpi .slt (BitVec.ofNat 32 a) 0#32 = 0#1 := by
  show BitVec.ofBool ((BitVec.ofNat 32 a).slt 0#32) = 0#1
  rw [BitVec.slt_zero_eq_msb, msb_ofNat32 ha]
  rfl

/-- Unequal to itself: no. -/
theorem ne_self {w : Nat} (x : BitVec w) : IntOp.cmpi .ne x x = 0#1 := by
  show BitVec.ofBool (x != x) = 0#1
  rw [bne_self_eq_false]; rfl

/-- Nothing and anything. -/
theorem andi_zero_left (x : BitVec 1) : IntOp.andi 0#1 x = 0#1 := BitVec.zero_and

/-- Anything and nothing. -/
theorem andi_zero_right (x : BitVec 1) : IntOp.andi x 0#1 = 0#1 := BitVec.and_zero

/-- Floor division of non-negative words is division. -/
theorem floorDiv_word {a b : Nat} (ha : a < 2 ^ 31) (h0 : 0 < b) (hb : b < 2 ^ 31) :
    floorDiv (BitVec.ofNat 32 a) (BitVec.ofNat 32 b) = BitVec.ofNat 32 (a / b) := by
  unfold floorDiv
  rw [divsi_word .host ha h0 hb, remsi_word .host ha h0 hb]
  rcases Nat.eq_zero_or_pos a with h | h
  · subst h
    rw [Nat.zero_mod, ne_self, andi_zero_right]; rfl
  · unfold sign
    rw [if_neg (ofNat32_ne_zero h (by omega)), if_neg (ofNat32_ne_zero h0 (by omega)), msb_ofNat32 ha, msb_ofNat32 hb, ne_self,
      andi_zero_left]
    rfl

/-- The remainder of non-negative words is the natural numbers' one. -/
theorem floorRem_word {a b : Nat} (ha : a < 2 ^ 31) (h0 : 0 < b) (hb : b < 2 ^ 31) :
    floorRem (BitVec.ofNat 32 a) (BitVec.ofNat 32 b) = BitVec.ofNat 32 (a % b) := by
  unfold floorRem
  rw [remsi_word .host ha h0 hb, slt_zero (lt_of_le_of_lt (Nat.mod_le a b) ha), slt_zero hb, ne_self, andi_zero_left]
  rfl

/-- A table's row for each digit: where the index holds the number `r` of a row, the row read is row `r`. -/
theorem take_row {α : Type} {nb : Nat} (hnb : nb < 2 ^ 31)
    (wf : GatherDims.WF (⟨2, ![nb, 64]⟩ : Shape) (⟨4, ![16384, 26, 16, 1]⟩ : Shape) (⟨4, ![16384, 26, 16, 64]⟩ : Shape) [3] [0] [] [0] [] 3 ![1, 64])
    (W : (⟨2, ![nb, 64]⟩ : Shape).Idx → α) (v : IVec (⟨4, ![16384, 26, 16, 1]⟩ : Shape) 32) (b : Fin 16384) (f : Fin 26) (k : Fin 16) (j : Fin 64)
    (r : Fin nb) (h : v (ix4 b f k (0 : Fin 1)) = BitVec.ofNat 32 r.val) :
    Host.gather (⟨[3], [0], [], [], [0], 3, ![1, 64], wf⟩ : GatherDims (⟨2, ![nb, 64]⟩ : Shape) (⟨4, ![16384, 26, 16, 1]⟩ : Shape)
      (⟨4, ![16384, 26, 16, 64]⟩ : Shape)) W v (ix4 b f k j) = W (ix2 r j) := by
  unfold Host.gather
  refine congrArg W (funext fun a => Fin.ext ?_)
  have hr := r.isLt
  match a with
  | ⟨0, _⟩ =>
    have hs : ((⟨[3], [0], [], [], [0], 3, ![1, 64], wf⟩ : GatherDims (⟨2, ![nb, 64]⟩ : Shape) (⟨4, ![16384, 26, 16, 1]⟩ : Shape)
      (⟨4, ![16384, 26, 16, 64]⟩ : Shape)).siIdx (ix4 b f k j) ⟨0, Nat.zero_lt_one⟩) = ix4 b f k (0 : Fin 1) := by
      funext c
      match c with
      | ⟨0, _⟩ => rfl
      | ⟨1, _⟩ => rfl
      | ⟨2, _⟩ => rfl
      | ⟨3, _⟩ => rfl
    show min (v ((⟨[3], [0], [], [], [0], 3, ![1, 64], wf⟩ : GatherDims (⟨2, ![nb, 64]⟩ : Shape) (⟨4, ![16384, 26, 16, 1]⟩ : Shape)
      (⟨4, ![16384, 26, 16, 64]⟩ : Shape)).siIdx (ix4 b f k j) ⟨0, Nat.zero_lt_one⟩)).toInt.toNat (nb - 1) = r.val
    rw [hs, h, BitVec.toInt_eq_toNat_cond, BitVec.toNat_ofNat, Nat.mod_eq_of_lt (by omega), if_pos (by omega)]
    omega
  | ⟨1, _⟩ => exact Nat.zero_add _

end Cert.Nary

end
-- ==== Proof.RefValue.lean ====
/-
  What the reference computes: at batch element `b`, field `f` and column `j` below 64 the sum of the first table's rows at the sixteen
  base-two digits of the index, and at the columns from 64 on the sum of the second table's rows at its base-three digits.
-/
module

public import proofs.«01_k».proof.Proof.Gen.ReferenceIdeal.Run
public import proofs.«01_k».proof.Proof.Spec
public import proofs.«01_k».proof.Proof.Take
public import Idealize.ShloMosaic.Lib.Pointwise
public import Idealize.ShloMosaic.Lib.IdealHost

@[expose] public section

set_option maxRecDepth 16384

noncomputable section

namespace Cert.Nary

open Idealize.ShloMosaic Idealize.ShloMosaic.TcCoe Idealize.SL.Sem
open Cert.ReferenceIdeal Cert.ReferenceIdeal.Gen Cert.ReferenceIdeal.Value

/-! ## The digits -/

/-- The powers of two, the largest first. -/
theorem power_two (k : Fin 16) : lit0 (S16.rowMajor (ix1 k)) = BitVec.ofNat 32 (2 ^ (15 - k.val)) := by
  fin_cases k <;> rfl

/-- The powers of three, the largest first. -/
theorem power_three (k : Fin 16) : lit1 (S16.rowMajor (ix1 k)) = BitVec.ofNat 32 (3 ^ (15 - k.val)) := by
  fin_cases k <;> rfl

/-- The base-two digit array at an index, over words. -/
theorem digits_two (V0 : Valuation τ sig (Elt Ideal)) (b : Fin 16384) (f : Fin 26) (k : Fin 16) : res_main_v2 V0 (ix3 b f k)
    = floorRem (floorDiv (V0 (Proc.devRef .tc main_arg0) (ix2 b f)) (lit0 (S16.rowMajor (ix1 k)))) 2#32 := by
  unfold res_main_v2 res_main_call1_v4 res_main_call1_v2 res_main_call1_v0 res_main_call0_v3 res_main_call0_v0 res_main_v0
  pointwise []
  rfl

/-- The base-three digit array at an index, over words. -/
theorem digits_three (V0 : Valuation τ sig (Elt Ideal)) (b : Fin 16384) (f : Fin 26) (k : Fin 16) : res_main_v7 V0 (ix3 b f k)
    = floorRem (floorDiv (V0 (Proc.devRef .tc main_arg0) (ix2 b f)) (lit1 (S16.rowMajor (ix1 k)))) 3#32 := by
  unfold res_main_v7 res_main_call4_v4 res_main_call4_v2 res_main_call4_v0 res_main_call3_v3 res_main_call3_v0 res_main_v5
  pointwise []
  rfl

/-- The row numbers that the first `take` reads: the base-two digits, the most significant first. -/
theorem rows_two (V0 : Valuation τ sig (Elt Ideal)) (b : Fin 16384) (f : Fin 26) (k : Fin 16) (z : Fin 1) (n : Nat) (hn : n < 2 ^ 31)
    (hx : V0 (Proc.devRef .tc main_arg0) (ix2 b f) = BitVec.ofNat 32 n) :
    res_main_call2_v5 V0 (ix4 b f k z) = BitVec.ofNat 32 (digit 2 n (15 - k.val)) := by
  have hd : res_main_v2 V0 (ix3 b f k) = BitVec.ofNat 32 (digit 2 n (15 - k.val)) := by
    rw [digits_two, hx, power_two, floorDiv_word hn (Nat.two_pow_pos _) (Nat.pow_lt_pow_right (by omega) (by omega))]
    exact floorRem_word (lt_of_le_of_lt (Nat.div_le_self _ _) hn) (by omega) (by omega)
  have hs := slt_zero (a := digit 2 n (15 - k.val)) (by have := digit_lt 2 n (15 - k.val) (by omega); omega)
  unfold res_main_call2_v5
  pointwise []
  rw [hd, hs]
  rfl

/-- The row numbers that the second `take` reads: the base-three digits, the most significant first. -/
theorem rows_three (V0 : Valuation τ sig (Elt Ideal)) (b : Fin 16384) (f : Fin 26) (k : Fin 16) (z : Fin 1) (n : Nat) (hn : n < 2 ^ 31)
    (hx : V0 (Proc.devRef .tc main_arg0) (ix2 b f) = BitVec.ofNat 32 n) :
    res_main_call5_v5 V0 (ix4 b f k z) = BitVec.ofNat 32 (digit 3 n (15 - k.val)) := by
  have hd : res_main_v7 V0 (ix3 b f k) = BitVec.ofNat 32 (digit 3 n (15 - k.val)) := by
    have hp : 3 ^ (15 - k.val) < 2 ^ 31 := lt_of_le_of_lt (Nat.pow_le_pow_right (by omega) (Nat.sub_le 15 k.val)) (by norm_num)
    rw [digits_three, hx, power_three, floorDiv_word hn (Nat.pow_pos (by omega)) hp]
    exact floorRem_word (lt_of_le_of_lt (Nat.div_le_self _ _) hn) (by omega) (by omega)
  have hs := slt_zero (a := digit 3 n (15 - k.val)) (by have := digit_lt 3 n (15 - k.val) (by omega); omega)
  unfold res_main_call5_v5
  pointwise []
  rw [hd, hs]
  rfl

/-! ## The sums -/

/-- A small word is not below zero and not above a bound that it keeps. -/
theorem in_bounds {a m : Nat} (ha : a ≤ m) (hm : m < 2 ^ 31) :
    IntOp.andi (IntOp.cmpi .sge (BitVec.ofNat 32 a) 0#32) (IntOp.cmpi .sle (BitVec.ofNat 32 a) (BitVec.ofNat 32 m)) = 1#1 := by
  have h1 : IntOp.cmpi .sge (BitVec.ofNat 32 a) 0#32 = 1#1 := by
    show BitVec.ofBool ((0#32).sle (BitVec.ofNat 32 a)) = 1#1
    rw [BitVec.sle_eq_decide, BitVec.toInt_eq_toNat_cond (BitVec.ofNat 32 a), BitVec.toNat_ofNat, Nat.mod_eq_of_lt (by omega), if_pos (by omega)]
    simp
  have h2 : IntOp.cmpi .sle (BitVec.ofNat 32 a) (BitVec.ofNat 32 m) = 1#1 := by
    show BitVec.ofBool ((BitVec.ofNat 32 a).sle (BitVec.ofNat 32 m)) = 1#1
    rw [BitVec.sle_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    simp [ha]
  rw [h1, h2]; rfl

/-- An `and` over indices at which every word is true is true. -/
theorem all_true {ι : Type} (s : Finset ι) (g : ι → BitVec 1) (h : ∀ x ∈ s, g x = 1#1) : s.fold IntOp.andi 1#1 g = 1#1 := by
  classical
  induction s using Finset.induction_on with
  | empty => rfl
  | insert a s ha ih =>
    rw [Finset.fold_insert ha, h a (Finset.mem_insert_self a s), ih fun x hx => h x (Finset.mem_insert_of_mem hx)]
    rfl

/-- The index that a reduction over the last axis, of length one, sends to `(b, f, k)`. -/
theorem fiber_eq (x : S16384x26x16x1.Idx) (b : Fin 16384) (f : Fin 26) (k : Fin 16)
    (h : reducesTo_S16384x26x16x1_S16384x26x16_d3.drop x = ix3 b f k) : x = ix4 b f k (0 : Fin 1) := by
  have h0 : (x 0).val = b.val := congrArg (fun i => (i 0).val) h
  have h1 : (x 1).val = f.val := congrArg (fun i => (i 1).val) h
  have h2 : (x 2).val = k.val := congrArg (fun i => (i 2).val) h
  have h3 : (x 3).val = 0 := Nat.lt_one_iff.mp (x 3).isLt
  funext a
  apply Fin.ext
  match a with
  | ⟨0, _⟩ => exact h0
  | ⟨1, _⟩ => exact h1
  | ⟨2, _⟩ => exact h2
  | ⟨3, _⟩ => exact h3

/-- The first sum, of the first table's rows. -/
theorem sum_two (V0 : Valuation τ sig (Elt Ideal)) (W : FVec Ideal S2x64 .f32) (b : Fin 16384) (f : Fin 26) (j : Fin 64) (n : Nat)
    (hn : n < 2 ^ 31) (hx : V0 (Proc.devRef .tc main_arg0) (ix2 b f) = BitVec.ofNat 32 n) :
    Host.reduceAdd (select (broadcastInDim S16384x26x16x64 ![0, 1, 2] bcast_S16384x26x16_S16384x26x16x64_0_1_2
        (Host.reduce IntOp.andi (andi (cmpi .sge (res_main_call2_v5 V0) (broadcastInDim S16384x26x16x1 ![] bcast_S_S16384x26x16x1 (constantI S_ 32 0#32)))
          (cmpi .sle (res_main_call2_v5 V0) (broadcastInDim S16384x26x16x1 ![0, 1, 2, 3] bcast_S1x1x1x1_S16384x26x16x1_0_1_2_3
            (broadcastInDim S1x1x1x1 ![3] bcast_S1_S1x1x1x1_3 (constantI S1 32 1#32))))) (constantI S_ 1 1#1)
          reducesTo_S16384x26x16x1_S16384x26x16_d3 h_S_))
        (Host.gather gather_S2x64_S16384x26x16x1_S16384x26x16x64_3_0_n_n_0_3_164 W (res_main_call2_v5 V0))
        (broadcastInDim S16384x26x16x64 ![] bcast_S_S16384x26x16x64 (constant S_ .f32 0x7FC00000#32)))
      (constant S_ .f32 0x00000000#32) reducesTo_S16384x26x16x64_S16384x26x64_d2 h_S_ (ix3 b f j)
      = ∑ k : Fin 16, W (ix2 (⟨digit 2 n (15 - k.val), digit_lt 2 n _ (by omega)⟩ : Fin 2) j) := by
  pointwise []
  refine Finset.sum_congr rfl fun k _ => ?_
  have hr := rows_two V0 b f k 0 n hn hx
  have hd := digit_lt 2 n (15 - k.val) (by omega)
  rw [all_true _ _ fun x hxm => by
      rw [fiber_eq x b f k (Finset.mem_filter.mp hxm).2, hr]
      exact in_bounds (by omega) (by omega)]
  exact take_row (by omega) _ W _ b f k j (⟨digit 2 n (15 - k.val), hd⟩ : Fin 2) hr

/-- The second sum, of the second table's rows. -/
theorem sum_three (V0 : Valuation τ sig (Elt Ideal)) (W : FVec Ideal S3x64 .f32) (b : Fin 16384) (f : Fin 26) (j : Fin 64) (n : Nat)
    (hn : n < 2 ^ 31) (hx : V0 (Proc.devRef .tc main_arg0) (ix2 b f) = BitVec.ofNat 32 n) :
    Host.reduceAdd (select (broadcastInDim S16384x26x16x64 ![0, 1, 2] bcast_S16384x26x16_S16384x26x16x64_0_1_2
        (Host.reduce IntOp.andi (andi (cmpi .sge (res_main_call5_v5 V0) (broadcastInDim S16384x26x16x1 ![] bcast_S_S16384x26x16x1 (constantI S_ 32 0#32)))
          (cmpi .sle (res_main_call5_v5 V0) (broadcastInDim S16384x26x16x1 ![0, 1, 2, 3] bcast_S1x1x1x1_S16384x26x16x1_0_1_2_3
            (broadcastInDim S1x1x1x1 ![3] bcast_S1_S1x1x1x1_3 (constantI S1 32 2#32))))) (constantI S_ 1 1#1)
          reducesTo_S16384x26x16x1_S16384x26x16_d3 h_S_))
        (Host.gather gather_S3x64_S16384x26x16x1_S16384x26x16x64_3_0_n_n_0_3_164 W (res_main_call5_v5 V0))
        (broadcastInDim S16384x26x16x64 ![] bcast_S_S16384x26x16x64 (constant S_ .f32 0x7FC00000#32)))
      (constant S_ .f32 0x00000000#32) reducesTo_S16384x26x16x64_S16384x26x64_d2 h_S_ (ix3 b f j)
      = ∑ k : Fin 16, W (ix2 (⟨digit 3 n (15 - k.val), digit_lt 3 n _ (by omega)⟩ : Fin 3) j) := by
  pointwise []
  refine Finset.sum_congr rfl fun k _ => ?_
  have hr := rows_three V0 b f k 0 n hn hx
  have hd := digit_lt 3 n (15 - k.val) (by omega)
  rw [all_true _ _ fun x hxm => by
      rw [fiber_eq x b f k (Finset.mem_filter.mp hxm).2, hr]
      exact in_bounds (by omega) (by omega)]
  exact take_row (by omega) _ W _ b f k j (⟨digit 3 n (15 - k.val), hd⟩ : Fin 3) hr

/-! ## The result -/

/-- Two arrays of 64 columns side by side, at an index. -/
theorem side_by_side (v w : FVec Ideal S16384x26x64 .f32) (b : Fin 16384) (f : Fin 26) (j : Fin 128) :
    concatenate S16384x26x128 2 [⟨S16384x26x64, v⟩, ⟨S16384x26x64, w⟩] concatenates_S16384x26x64_S16384x26x64_S16384x26x128_d2 (ix3 b f j)
      = if h : j.val < 64 then v (ix3 b f (⟨j.val, h⟩ : Fin 64)) else w (ix3 b f (⟨j.val - 64, by omega⟩ : Fin 64)) := by
  pointwise []

/-- The result array of the reference, where every index is below `2 ^ 31`: the embeddings. -/
theorem reference_value (V0 : Valuation τ sig (Elt Ideal))
    (hX : ∀ (b : Fin 16384) (f : Fin 26), BitVec.toNat (V0 (Proc.devRef .tc main_arg0) (ix2 b f)) < 2 ^ 31) :
    concatenate S16384x26x128 2 [⟨S16384x26x64, (Host.reduceAdd (select (broadcastInDim S16384x26x16x64 ![0, 1, 2] bcast_S16384x26x16_S16384x26x16x64_0_1_2 (Host.reduce IntOp.andi (andi (cmpi .sge (res_main_call2_v5 V0) (broadcastInDim S16384x26x16x1 ![] bcast_S_S16384x26x16x1 (constantI S_ 32 0#32))) (cmpi .sle (res_main_call2_v5 V0) (broadcastInDim S16384x26x16x1 ![0, 1, 2, 3] bcast_S1x1x1x1_S16384x26x16x1_0_1_2_3 (broadcastInDim S1x1x1x1 ![3] bcast_S1_S1x1x1x1_3 (constantI S1 32 1#32))))) (constantI S_ 1 1#1) reducesTo_S16384x26x16x1_S16384x26x16_d3 h_S_)) (Host.gather gather_S2x64_S16384x26x16x1_S16384x26x16x64_3_0_n_n_0_3_164 (V0 (Proc.devRef .tc main_arg1)) (res_main_call2_v5 V0)) (broadcastInDim S16384x26x16x64 ![] bcast_S_S16384x26x16x64 (constant S_ .f32 0x7FC00000#32))) (constant S_ .f32 0x00000000#32) reducesTo_S16384x26x16x64_S16384x26x64_d2 h_S_)⟩, ⟨S16384x26x64, (Host.reduceAdd (select (broadcastInDim S16384x26x16x64 ![0, 1, 2] bcast_S16384x26x16_S16384x26x16x64_0_1_2 (Host.reduce IntOp.andi (andi (cmpi .sge (res_main_call5_v5 V0) (broadcastInDim S16384x26x16x1 ![] bcast_S_S16384x26x16x1 (constantI S_ 32 0#32))) (cmpi .sle (res_main_call5_v5 V0) (broadcastInDim S16384x26x16x1 ![0, 1, 2, 3] bcast_S1x1x1x1_S16384x26x16x1_0_1_2_3 (broadcastInDim S1x1x1x1 ![3] bcast_S1_S1x1x1x1_3 (constantI S1 32 2#32))))) (constantI S_ 1 1#1) reducesTo_S16384x26x16x1_S16384x26x16_d3 h_S_)) (Host.gather gather_S3x64_S16384x26x16x1_S16384x26x16x64_3_0_n_n_0_3_164 (V0 (Proc.devRef .tc main_arg2)) (res_main_call5_v5 V0)) (broadcastInDim S16384x26x16x64 ![] bcast_S_S16384x26x16x64 (constant S_ .f32 0x7FC00000#32))) (constant S_ .f32 0x00000000#32) reducesTo_S16384x26x16x64_S16384x26x64_d2 h_S_)⟩] concatenates_S16384x26x64_S16384x26x64_S16384x26x128_d2
      = embedding (V0 (Proc.devRef .tc main_arg0)) (V0 (Proc.devRef .tc main_arg1)) (V0 (Proc.devRef .tc main_arg2)) := by
  funext i
  idx_vars i
  have hx : V0 (Proc.devRef .tc main_arg0) (ix2 i0 i1) = BitVec.ofNat 32 (BitVec.toNat (V0 (Proc.devRef .tc main_arg0) (ix2 i0 i1))) :=
    by rw [BitVec.ofNat_toNat, BitVec.setWidth_eq]
  rw [side_by_side]
  unfold embedding
  by_cases h : i2.val < 64
  · rw [dif_pos h, dif_pos (show (ix3 i0 i1 i2 2).val < 64 from h), sum_two V0 _ i0 i1 _ _ (hX i0 i1) hx]
    exact rowSum_rev 2 _ (fun d => V0 (Proc.devRef .tc main_arg1) (ix2 d (⟨i2.val, h⟩ : Fin 64))) _
  · rw [dif_neg h, dif_neg (show ¬ (ix3 i0 i1 i2 2).val < 64 from h), sum_three V0 _ i0 i1 _ _ (hX i0 i1) hx]
    exact rowSum_rev 3 _ (fun d => V0 (Proc.devRef .tc main_arg2) (ix2 d (⟨i2.val - 64, by omega⟩ : Fin 64))) _

end Cert.Nary

end
-- ==== Proof.lean ====
/-
  The proof of the claims about the n-ary embedding kernel: the frames of kernel and reference, and that where the precondition holds
  both compute the embedding (Proof/Spec.lean) of their arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Claim
public import proofs.«01_k».proof.Proof.Pre
public import proofs.«01_k».proof.Proof.KernelValue
public import proofs.«01_k».proof.Proof.RefValue

@[expose] public section

noncomputable section

namespace Cert.Proof

open Idealize.ShloMosaic Idealize.SL.Sem Cert.Kernel

/-- The reference, from any memory whose semaphore counters are zero: every run of it ends, its three arguments are what they were,
    and every counter is zero, since it has no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0 :=
  (θ_run Cert.ReferenceIdeal.defs _ _).mono (fun r h => ⟨fun c => (h c).2, sem_eq_zero_of_no_sems (by decide) r.2⟩)
    (Cert.ReferenceIdeal.Value.run (F := Ideal) m ρ)

/-- The five claims. -/
theorem claim : Cert.Claim := ⟨Cert.Kernel.Gen.facts, Cert.KernelIdeal.Gen.facts, Cert.ReferenceIdeal.Gen.facts, Cert.Nary.pre_facts, by
  refine ⟨?_, ?_, ?_, ?_, ?_, ?_, ?_⟩
  · exact fun m ρ _ => Cert.Kernel.Gen.frame m ρ
  · exact fun m ρ _ => Cert.KernelIdeal.Gen.frame m ρ
  · exact fun m ρ _ => Cert.KernelIdeal.Gen.frame m ρ
  · exact fun m ρ _ => reference_frame m ρ
  · exact fun m ρ _ => reference_frame m ρ
  · trivial
  · intro m g m' g' hpre hagree
    haveI := Cert.Nary.pre_facts
    have hread (c : Dev Cert.KernelIdeal.nD) := Cert.Nary.pre_read _ _ _ (hpre c)
    refine ⟨fun c => Cert.Nary.embedding (m (c, Proc.devRef .tc Cert.KernelIdeal.main_arg0)) (m (c, Proc.devRef .tc Cert.KernelIdeal.main_arg1))
      (m (c, Proc.devRef .tc Cert.KernelIdeal.main_arg2)), ?_, ?_⟩
    · exact Cert.Nary.kernel_run m g (fun c => (hread c).1) (fun c => (hread c).2.1) (fun c => (hread c).2.2)
    · refine (θ_run Cert.ReferenceIdeal.defs _ _).mono (fun r h c => ⟨(h c).1.trans ?_, (h c).2⟩) (Cert.ReferenceIdeal.Value.run (F := Ideal) m' g')
      obtain ⟨h0, h1, h2⟩ := hagree c
      refine (Cert.Nary.reference_value (fun b => m' (c, b)) fun b f => ?_).trans ?_
      · exact (congrArg (fun X : IVec Cert.KernelIdeal.S16384x26 32 => BitVec.toNat (X (ix2 b f))) h0).trans_lt
          (((hread c).1 b f).trans (by norm_num))
      · exact congr (congrArg₂ Cert.Nary.embedding h0 h1) h2⟩

end Cert.Proof

end
